-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_w_finite [hPre_norm_w_finite : Cert.Pre_norm_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_norm_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_w_finite [hPre_norm_w_finite : Cert.Pre_norm_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_norm_w_finite [hKernelIdeal : Cert.KernelIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_w_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_norm_w_finite [hReferenceIdeal : Cert.ReferenceIdeal.Facts] [hPre_norm_w_finite : Cert.Pre_norm_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_norm_w_finite [hKernelIdeal : Cert.KernelIdeal.Facts] [hReferenceIdeal : Cert.ReferenceIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_norm_w_finite : Cert.Pre_norm_w_finite.Facts),
    quiescent_Kernel (hKernel := hKernel)
    ∧ quiescent_KernelIdeal (hKernelIdeal := hKernelIdeal)
    ∧ quiescent_KernelIdeal_pre_norm_w_finite (hKernelIdeal := hKernelIdeal) (hPre_norm_w_finite := hPre_norm_w_finite)
    ∧ quiescent_ReferenceIdeal (hReferenceIdeal := hReferenceIdeal)
    ∧ quiescent_ReferenceIdeal_pre_norm_w_finite (hReferenceIdeal := hReferenceIdeal) (hPre_norm_w_finite := hPre_norm_w_finite)
    ∧ preserves_Kernel_KernelIdeal
    ∧ algebraic_KernelIdeal_ReferenceIdeal_pre_norm_w_finite (hKernelIdeal := hKernelIdeal) (hReferenceIdeal := hReferenceIdeal) (hPre_norm_w_finite := hPre_norm_w_finite)
-- ==== Pre_norm_w_finite.lean ====
abbrev S3x1024x5120 : Shape := ⟨3, ![3, 1024, 5120]⟩
abbrev S5120 : Shape := ⟨1, ![5120]⟩
abbrev S5120x3840 : Shape := ⟨2, ![5120, 3840]⟩
abbrev S3840 : Shape := ⟨1, ![3840]⟩
abbrev S128 : Shape := ⟨1, ![128]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S3x1024x5120 .bf16) (main_arg1 : FVec F S5120 .bf16) (main_arg2 : FVec F S5120x3840 .fp8e4m3) (main_arg3 : FVec F S3840 .f32) (main_arg4 : FVec F S128 .bf16) (main_arg5 : FVec F S128 .bf16) : IVec S5120 1 :=
  let main_v0 : FVec F S5120 .bf16 := Host.absf main_arg1
  let main_cst : FVec F S_ .bf16 := constant S_ .bf16 0x7F7F#16
  let main_v1 : FVec F S5120 .bf16 := broadcastInDim S5120 ![] bcast_S_S5120 main_cst
  let main_v2 : IVec S5120 1 := cmpf .ole main_v0 main_v1
  main_v2
-- ==== Kernel.lean ====
abbrev S3x1024x5120 : Shape := ⟨3, ![3, 1024, 5120]⟩
abbrev S5120 : Shape := ⟨1, ![5120]⟩
abbrev S5120x3840 : Shape := ⟨2, ![5120, 3840]⟩
abbrev S3840 : Shape := ⟨1, ![3840]⟩
abbrev S128 : Shape := ⟨1, ![128]⟩
abbrev S1x5120 : Shape := ⟨2, ![1, 5120]⟩
abbrev S1x3840 : Shape := ⟨2, ![1, 3840]⟩
abbrev S1x128 : Shape := ⟨2, ![1, 128]⟩
abbrev S3x20x1024x128 : Shape := ⟨4, ![3, 20, 1024, 128]⟩
abbrev S3x5x1024x128 : Shape := ⟨4, ![3, 5, 1024, 128]⟩
abbrev S3x1x1024 : Shape := ⟨3, ![3, 1, 1024]⟩
abbrev S1x256x5120 : Shape := ⟨3, ![1, 256, 5120]⟩
abbrev S1x20x256x128 : Shape := ⟨4, ![1, 20, 256, 128]⟩
abbrev S1x5x256x128 : Shape := ⟨4, ![1, 5, 256, 128]⟩
abbrev S1x1x256 : Shape := ⟨3, ![1, 1, 256]⟩
abbrev S256x5120 : Shape := ⟨2, ![256, 5120]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S5120x256 : Shape := ⟨2, ![5120, 256]⟩
abbrev S256x256 : Shape := ⟨2, ![256, 256]⟩
abbrev S1x1x256x128 : Shape := ⟨4, ![1, 1, 256, 128]⟩
abbrev S3x1024x20x128 : Shape := ⟨4, ![3, 1024, 20, 128]⟩
abbrev S3x1024x5x128 : Shape := ⟨4, ![3, 1024, 5, 128]⟩
abbrev S3x1024x1 : Shape := ⟨3, ![3, 1024, 1]⟩

abbrev nBuf : Space → Nat
  | .hbm => 19
  | .vmem => 17
  | .smem => 0
  | _ => 0

abbrev bufTy : (tb : Table) → Fin (tcTables nBuf tb) → BufTy
  | .hbm, ⟨0, _⟩ => ⟨S3x1024x5120, .bf16⟩
  | .hbm, ⟨1, _⟩ => ⟨S5120, .bf16⟩
  | .hbm, ⟨2, _⟩ => ⟨S5120x3840, .fp8e4m3⟩
  | .hbm, ⟨3, _⟩ => ⟨S3840, .f32⟩
  | .hbm, ⟨4, _⟩ => ⟨S128, .bf16⟩
  | .hbm, ⟨5, _⟩ => ⟨S128, .bf16⟩
  | .hbm, ⟨6, _⟩ => ⟨S1x5120, .bf16⟩
  | .hbm, ⟨7, _⟩ => ⟨S1x3840, .f32⟩
  | .hbm, ⟨8, _⟩ => ⟨S1x128, .bf16⟩
  | .hbm, ⟨9, _⟩ => ⟨S1x128, .bf16⟩
  | .hbm, ⟨10, _⟩ => ⟨S3x20x1024x128, .bf16⟩
  | .hbm, ⟨11, _⟩ => ⟨S3x5x1024x128, .bf16⟩
  | .hbm, ⟨12, _⟩ => ⟨S3x5x1024x128, .bf16⟩
  | .hbm, ⟨13, _⟩ => ⟨S3x1024x5120, .fp8e4m3⟩
  | .hbm, ⟨14, _⟩ => ⟨S3x1x1024, .f32⟩
  | .hbm, ⟨15, _⟩ => ⟨S3x1024x20x128, .bf16⟩
  | .hbm, ⟨16, _⟩ => ⟨S3x1024x5x128, .bf16⟩
  | .hbm, ⟨17, _⟩ => ⟨S3x1024x5x128, .bf16⟩
  | .hbm, ⟨18, _⟩ => ⟨S3x1024x1, .f32⟩
  | .local _ .vmem, ⟨0, _⟩ => ⟨S1x256x5120, .bf16⟩
  | .local _ .vmem, ⟨1, _⟩ => ⟨S1x256x5120, .bf16⟩
  | .local _ .vmem, ⟨2, _⟩ => ⟨S1x5120, .bf16⟩
  | .local _ .vmem, ⟨3, _⟩ => ⟨S5120x3840, .fp8e4m3⟩
  | .local _ .vmem, ⟨4, _⟩ => ⟨S1x3840, .f32⟩
  | .local _ .vmem, ⟨5, _⟩ => ⟨S1x128, .bf16⟩
  | .local _ .vmem, ⟨6, _⟩ => ⟨S1x128, .bf16⟩
  | .local _ .vmem, ⟨7, _⟩ => ⟨S1x20x256x128, .bf16⟩
  | .local _ .vmem, ⟨8, _⟩ => ⟨S1x20x256x128, .bf16⟩
  | .local _ .vmem, ⟨9, _⟩ => ⟨S1x5x256x128, .bf16⟩
  | .local _ .vmem, ⟨10, _⟩ => ⟨S1x5x256x128, .bf16⟩
  | .local _ .vmem, ⟨11, _⟩ => ⟨S1x5x256x128, .bf16⟩
  | .local _ .vmem, ⟨12, _⟩ => ⟨S1x5x256x128, .bf16⟩
  | .local _ .vmem, ⟨13, _⟩ => ⟨S1x256x5120, .fp8e4m3⟩
  | .local _ .vmem, ⟨14, _⟩ => ⟨S1x256x5120, .fp8e4m3⟩
  | .local _ .vmem, ⟨15, _⟩ => ⟨S1x1x256, .f32⟩
  | .local _ .vmem, ⟨16, _⟩ => ⟨S1x1x256, .f32⟩
  | _, _ => ⟨S3x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x20x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x5x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x5x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x1024x5120 : Shape := ⟨3, ![3, 1024, 5120]⟩
abbrev S5120 : Shape := ⟨1, ![5120]⟩
abbrev S5120x3840 : Shape := ⟨2, ![5120, 3840]⟩
abbrev S3840 : Shape := ⟨1, ![3840]⟩
abbrev S128 : Shape := ⟨1, ![128]⟩
abbrev S3x1024x20x128 : Shape := ⟨4, ![3, 1024, 20, 128]⟩
abbrev S3x1024x5x128 : Shape := ⟨4, ![3, 1024, 5, 128]⟩
abbrev S3x1024x1 : Shape := ⟨3, ![3, 1024, 1]⟩
abbrev S3x1024 : Shape := ⟨2, ![3, 1024]⟩
abbrev S1x1x5120 : Shape := ⟨3, ![1, 1, 5120]⟩
abbrev S3x1024x256 : Shape := ⟨3, ![3, 1024, 256]⟩
abbrev S3x1024x3840 : Shape := ⟨3, ![3, 1024, 3840]⟩
abbrev S1x1x3840 : Shape := ⟨3, ![1, 1, 3840]⟩
abbrev S3x1024x5x6x128 : Shape := ⟨5, ![3, 1024, 5, 6, 128]⟩
abbrev S3x1024x5x4x128 : Shape := ⟨5, ![3, 1024, 5, 4, 128]⟩
abbrev S3x1024x5x1x128 : Shape := ⟨5, ![3, 1024, 5, 1, 128]⟩
abbrev S3x1024x20 : Shape := ⟨3, ![3, 1024, 20]⟩
abbrev S3x1024x20x1 : Shape := ⟨4, ![3, 1024, 20, 1]⟩
abbrev S1x1x1x128 : Shape := ⟨4, ![1, 1, 1, 128]⟩
abbrev S3x1024x5 : Shape := ⟨3, ![3, 1024, 5]⟩
abbrev S3x1024x5x1 : Shape := ⟨4, ![3, 1024, 5, 1]⟩

abbrev nBuf : Space → Nat
  | .hbm => 11
  | .vmem => 11
  | .smem => 0
  | _ => 0

abbrev bufTy : (tb : Table) → Fin (tcTables nBuf tb) → BufTy
  | .hbm, ⟨0, _⟩ => ⟨S3x1024x5120, .bf16⟩
  | .hbm, ⟨1, _⟩ => ⟨S5120, .bf16⟩
  | .hbm, ⟨2, _⟩ => ⟨S5120x3840, .fp8e4m3⟩
  | .hbm, ⟨3, _⟩ => ⟨S3840, .f32⟩
  | .hbm, ⟨4, _⟩ => ⟨S128, .bf16⟩
  | .hbm, ⟨5, _⟩ => ⟨S128, .bf16⟩
  | .hbm, ⟨6, _⟩ => ⟨S3x1024x20x128, .bf16⟩
  | .hbm, ⟨7, _⟩ => ⟨S3x1024x5x128, .bf16⟩
  | .hbm, ⟨8, _⟩ => ⟨S3x1024x5x128, .bf16⟩
  | .hbm, ⟨9, _⟩ => ⟨S3x1024x5120, .fp8e4m3⟩
  | .hbm, ⟨10, _⟩ => ⟨S3x1024x1, .f32⟩
  | .local _ .vmem, ⟨0, _⟩ => ⟨S3x1024x5120, .bf16⟩
  | .local _ .vmem, ⟨1, _⟩ => ⟨S5120, .bf16⟩
  | .local _ .vmem, ⟨2, _⟩ => ⟨S5120x3840, .fp8e4m3⟩
  | .local _ .vmem, ⟨3, _⟩ => ⟨S3840, .f32⟩
  | .local _ .vmem, ⟨4, _⟩ => ⟨S128, .bf16⟩
  | .local _ .vmem, ⟨5, _⟩ => ⟨S128, .bf16⟩
  | .local _ .vmem, ⟨6, _⟩ => ⟨S3x1024x20x128, .bf16⟩
  | .local _ .vmem, ⟨7, _⟩ => ⟨S3x1024x5x128, .bf16⟩
  | .local _ .vmem, ⟨8, _⟩ => ⟨S3x1024x5x128, .bf16⟩
  | .local _ .vmem, ⟨9, _⟩ => ⟨S3x1024x5120, .fp8e4m3⟩
  | .local _ .vmem, ⟨10, _⟩ => ⟨S3x1024x1, .f32⟩
  | _, _ => ⟨S3x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1024x20x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1024x5x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1024x5x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1024x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Exponent.lean ====
/-
  The power-of-two scale of one row, as a function of one number `t ≥ 0`, in the two forms that the programs use.

  The kernel looks for the eight-bit exponent field of `t` bit by bit, from the high bit down: a bit stays set when the
  power of two whose word has that field is at most `t`. It then makes the words of `2 ^ e` and `2 ^ -e` from the field.
  The reference takes the least `e` with `t < 2 ^ e` among -126 … 129, and `exp2` of it. Below `2 ^ 126` the two agree.
-/
module

public import Idealize.ShloMosaic.Lib.Pointwise

@[expose] public section

noncomputable section

namespace Cert.Qkv

open Idealize.ShloMosaic

/-! ## Words of powers of two -/

/-- The word with exponent field `c` and every other bit zero. -/
def fieldWord (c : BitVec 32) : BitVec 32 := IntOp.shli .vector c 23#32

/-- The three fields of that word, decided over the 256 values of `c`. -/
theorem fieldWord_fields : ∀ c : Fin 256, (fieldWord (BitVec.ofNat 32 c.val)).extractLsb' 31 1 = 0#1
    ∧ ((fieldWord (BitVec.ofNat 32 c.val)).extractLsb' 23 8).toNat = c.val
    ∧ ((fieldWord (BitVec.ofNat 32 c.val)).extractLsb' 0 23).toNat = 0 := by decide +kernel

/-- A word with sign 0, exponent field `c` in 1 … 254 and fraction 0 denotes `2 ^ (c - 127)`. -/
theorem ieee_power {b : BitVec 32} {c : Nat} (h1 : 1 ≤ c) (h2 : c ≤ 254) (hs : b.extractLsb' 31 1 = 0#1)
    (he : (b.extractLsb' 23 8).toNat = c) (hf : (b.extractLsb' 0 23).toNat = 0) :
    Ideal.ieee 8 23 b = (((2 : ℝ) ^ ((c : ℤ) - 127) : ℝ) : EReal) := by
  have hz : (2 : ℝ) ^ 23 * (2 : ℝ) ^ ((c : ℤ) - 127 - 23) = (2 : ℝ) ^ ((c : ℤ) - 127) := by
    rw [← zpow_natCast, ← zpow_add₀ (by norm_num : (2 : ℝ) ≠ 0)]
    congr 1; push_cast; ring
  have hne : c ≠ 2 ^ 8 - 1 := by norm_num; omega
  have hne0 : c ≠ 0 := by omega
  unfold Ideal.ieee
  simp only [Nat.reduceAdd, hs, he, hf, if_neg hne, if_neg hne0]
  rw [if_neg (by decide)]
  congr 1
  rw [← hz]
  norm_num

/-- For `c` in 1 … 254 the word denotes `2 ^ (c - 127)`. -/
theorem ofBits_fieldWord {c : Nat} (h1 : 1 ≤ c) (h2 : c ≤ 254) :
    Ideal.ofBits .f32 (fieldWord (BitVec.ofNat 32 c)) = (((2 : ℝ) ^ ((c : ℤ) - 127) : ℝ) : EReal) := by
  obtain ⟨hs, he, hf⟩ := fieldWord_fields ⟨c, by omega⟩
  exact ieee_power h1 h2 hs he hf

/-- The word of the field 0 denotes 0. -/
theorem ofBits_fieldWord_zero : Ideal.ofBits .f32 (fieldWord (BitVec.ofNat 32 0)) = 0 := by
  have : fieldWord (BitVec.ofNat 32 0) = 0#32 := by decide
  rw [this]; exact Ideal.ofBits_zero_f32

/-- The word of the field 255 denotes `+∞`. -/
theorem ofBits_fieldWord_top : Ideal.ofBits .f32 (fieldWord (BitVec.ofNat 32 255)) = ⊤ := by
  have : fieldWord (BitVec.ofNat 32 255) = 0x7F800000#32 := by decide
  rw [this]
  simp [Ideal.ofBits, Ideal.ieee]

/-! ## The field of a number -/

/-- `n` is the exponent field of `r`: `2 ^ (n - 127) ≤ r < 2 ^ (n - 126)`, the lower bound 0 for the field 0. -/
def IsField (r : ℝ) (n : Nat) : Prop :=
  0 ≤ r ∧ n ≤ 252 ∧ (n = 0 ∨ (2 : ℝ) ^ ((n : ℤ) - 127) ≤ r) ∧ r < (2 : ℝ) ^ ((n : ℤ) - 126)

/-- Every `r` with `0 ≤ r < 2 ^ 126` has a field, at most 252. -/
theorem exists_isField {r : ℝ} (h0 : 0 ≤ r) (h : r < (2 : ℝ) ^ (126 : ℤ)) : ∃ n, IsField r n := by
  classical
  have hex : ∃ n : Nat, r < (2 : ℝ) ^ ((n : ℤ) - 126) := ⟨252, by norm_num at h ⊢; exact h⟩
  refine ⟨Nat.find hex, h0, ?_, ?_, Nat.find_spec hex⟩
  · exact Nat.find_min' hex (by norm_num at h ⊢; exact h)
  · by_cases hn : Nat.find hex = 0
    · exact Or.inl hn
    · refine Or.inr ?_
      have := Nat.find_min hex (Nat.sub_lt (Nat.pos_of_ne_zero hn) Nat.one_pos)
      rw [not_lt] at this
      have h1 : 1 ≤ Nat.find hex := Nat.pos_of_ne_zero hn
      have he : ((Nat.find hex : ℕ) : ℤ) - 127 = ((Nat.find hex - 1 : ℕ) : ℤ) - 126 := by
        rw [Nat.cast_sub h1]; push_cast; ring
      rw [he]; exact this

/-- The power of two of a field `m` is at most `r` exactly when `m` is at most `r`'s field. -/
theorem fieldWord_le_iff {r : ℝ} {n m : Nat} (h : IsField r n) (hm : m ≤ 255) :
    Ideal.ofBits .f32 (fieldWord (BitVec.ofNat 32 m)) ≤ (r : EReal) ↔ m ≤ n := by
  obtain ⟨h0, hn, hlo, hhi⟩ := h
  rcases Nat.eq_zero_or_pos m with rfl | hpos
  · rw [ofBits_fieldWord_zero]; exact ⟨fun _ => Nat.zero_le _, fun _ => EReal.coe_nonneg.mpr h0⟩
  rcases Nat.lt_or_ge m 255 with hlt | hge
  · rw [ofBits_fieldWord hpos (by omega), EReal.coe_le_coe_iff]
    constructor
    · intro hle
      by_contra hgt
      have : (2 : ℝ) ^ ((n : ℤ) - 126) ≤ (2 : ℝ) ^ ((m : ℤ) - 127) :=
        zpow_le_zpow_right₀ one_le_two (by omega)
      linarith
    · intro hle
      rcases hlo with h0' | hlo
      · omega
      · exact (zpow_le_zpow_right₀ one_le_two (by omega)).trans hlo
  · obtain rfl : m = 255 := by omega
    rw [ofBits_fieldWord_top]
    exact ⟨fun h => absurd h (by simp), fun h => by omega⟩

/-! ## The kernel's search -/

/-- One step of the search: set the bit `s` when the power of two with it set is at most `t`. -/
def searchStep (t : EReal) (s f : BitVec 32) : BitVec 32 :=
  if Ideal.ofBits .f32 (IntOp.shli .vector (IntOp.addi f s) 23#32) ≤ t then IntOp.addi f s else f

/-- The exponent field that the kernel finds. -/
def searchField (t : EReal) : BitVec 32 :=
  searchStep t 1#32 (searchStep t 2#32 (searchStep t 4#32 (searchStep t 8#32 (searchStep t 16#32
    (searchStep t 32#32 (searchStep t 64#32 (searchStep t 128#32 0#32)))))))

/-- What a step keeps: the bits found so far are a number `m ≤ n < m + s`. -/
def Near (n s : Nat) (f : BitVec 32) : Prop := ∃ m : Nat, f = BitVec.ofNat 32 m ∧ m ≤ n ∧ n < m + s ∧ m + s ≤ 256

/-- A step halves the range that the field is known to lie in. -/
theorem searchStep_near {r : ℝ} {n : Nat} (h : IsField r n) (s : Nat) (hs : 1 ≤ s) {f : BitVec 32}
    (hf : Near n (s + s) f) : Near n s (searchStep (r : EReal) (BitVec.ofNat 32 s) f) := by
  obtain ⟨m, rfl, h1, h2, h3⟩ := hf
  have hadd : IntOp.addi (BitVec.ofNat 32 m) (BitVec.ofNat 32 s) = BitVec.ofNat 32 (m + s) := by
    show BitVec.ofNat 32 m + BitVec.ofNat 32 s = _
    rw [BitVec.ofNat_add]
  have hiff := fieldWord_le_iff (m := m + s) h (by omega)
  unfold fieldWord at hiff
  unfold searchStep
  rw [hadd]
  by_cases hle : m + s ≤ n
  · rw [if_pos (hiff.mpr hle)]
    exact ⟨m + s, rfl, hle, by omega, by omega⟩
  · rw [if_neg (fun h => hle (hiff.mp h))]
    exact ⟨m, rfl, h1, by omega, by omega⟩

/-- The search finds the field. -/
theorem searchField_eq {r : ℝ} {n : Nat} (h : IsField r n) : searchField (r : EReal) = BitVec.ofNat 32 n := by
  have h0 : Near n (128 + 128) 0#32 := ⟨0, rfl, Nat.zero_le _, by have := h.2.1; omega, by omega⟩
  obtain ⟨m, hm, h1, h2, _⟩ := searchStep_near h 1 (by decide) <| searchStep_near h 2 (by decide) <|
    searchStep_near h 4 (by decide) <| searchStep_near h 8 (by decide) <| searchStep_near h 16 (by decide) <|
    searchStep_near h 32 (by decide) <| searchStep_near h 64 (by decide) <| searchStep_near h 128 (by decide) h0
  obtain rfl : m = n := by omega
  exact hm

/-! ## The kernel's scale and its inverse -/

/-- The exponent that the kernel takes for `t`: 0 for 0, else the field less 126. -/
def kernelExponent (t : EReal) : BitVec 32 :=
  if t = 0 then 0#32 else IntOp.subi (searchField t) 126#32

/-- The kernel's scale, from the word with field `e + 127`. -/
def kernelScale (t : EReal) : EReal :=
  Ideal.ofBits .f32 (IntOp.shli .vector (IntOp.addi (kernelExponent t) 127#32) 23#32)

/-- The kernel's inverse scale, from the word with field `127 - e`. -/
def kernelInverse (t : EReal) : EReal :=
  Ideal.ofBits .f32 (IntOp.shli .vector (IntOp.subi 127#32 (kernelExponent t)) 23#32)

/-- At zero both are 1. -/
theorem kernel_zero : kernelScale 0 = ((1 : ℝ) : EReal) ∧ kernelInverse 0 = ((1 : ℝ) : EReal) := by
  have he : kernelExponent 0 = 0#32 := by
    unfold kernelExponent
    rw [if_pos rfl]
  have h := ofBits_fieldWord (c := 127) (by decide) (by decide)
  have h1 : ((((2 : ℝ) ^ (((127 : ℕ) : ℤ) - 127) : ℝ)) : EReal) = ((1 : ℝ) : EReal) := by norm_num
  unfold kernelScale kernelInverse
  rw [he]
  exact ⟨h.trans h1, h.trans h1⟩

/-- Elsewhere they are `2 ^ e` and `2 ^ -e` at `e` the field less 126. -/
theorem kernel_of_isField {r : ℝ} {n : Nat} (h : IsField r n) (hr : r ≠ 0) :
    kernelScale (r : EReal) = (((2 : ℝ) ^ ((n : ℤ) - 126) : ℝ) : EReal)
      ∧ kernelInverse (r : EReal) = (((2 : ℝ) ^ (126 - (n : ℤ)) : ℝ) : EReal) := by
  have hn := h.2.1
  have he : kernelExponent (r : EReal) = IntOp.subi (BitVec.ofNat 32 n) 126#32 := by
    unfold kernelExponent
    rw [if_neg (by simp [hr]), searchField_eq h]
  have key : ∀ n : Fin 253, IntOp.addi (IntOp.subi (BitVec.ofNat 32 n.val) 126#32) 127#32 = BitVec.ofNat 32 (n.val + 1)
      ∧ IntOp.subi 127#32 (IntOp.subi (BitVec.ofNat 32 n.val) 126#32) = BitVec.ofNat 32 (253 - n.val) := by decide +kernel
  obtain ⟨k1, k2⟩ := key ⟨n, by omega⟩
  dsimp only at k1 k2
  unfold kernelScale kernelInverse
  rw [he, k1, k2]
  constructor
  · refine (ofBits_fieldWord (c := n + 1) (by omega) (by omega)).trans ?_
    congr 2; push_cast; ring
  · refine (ofBits_fieldWord (c := 253 - n) (by omega) (by omega)).trans ?_
    congr 2; push_cast [Nat.cast_sub (show n ≤ 253 by omega)]; ring

/-! ## The reference's exponent -/

/-- The `i`-th candidate exponent, `i - 126`, as the reference computes it. -/
def candidate (i : Nat) : EReal := ((((BitVec.ofNat 32 i).toInt : ℝ)) : EReal) - Ideal.ofBits .f32 0x42FC0000#32

/-- The least candidate `e` with `t < 2 ^ e` (129 stands for none). -/
def leastExponent (t : EReal) : EReal :=
  (Finset.univ : Finset (Fin 256)).fold min (Ideal.ofBits .f32 0x7F800000#32) fun i =>
    if t < Ideal.exp2 (candidate i.val) then candidate i.val else Ideal.ofBits .f32 0x43010000#32

/-- The reference's exponent for a row whose largest magnitude is `a`, at `t` = `a / 448`: 0 when `a` is 0. -/
def referenceExponent (a t : EReal) : EReal := if a = 0 then 0 else leastExponent t

theorem ofBits_126 : Ideal.ofBits .f32 0x42FC0000#32 = ((126 : ℝ) : EReal) := by
  simp [Ideal.ofBits, Ideal.ieee, -EReal.coe_mul]; norm_num

theorem ofBits_129 : Ideal.ofBits .f32 0x43010000#32 = ((129 : ℝ) : EReal) := by
  simp [Ideal.ofBits, Ideal.ieee, -EReal.coe_mul]; norm_num

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

theorem candidate_eq {i : Nat} (hi : i < 256) : candidate i = (((i : ℤ) - 126 : ℤ) : ℝ) := by
  have : (BitVec.ofNat 32 i).toInt = (i : ℤ) := by
    rw [BitVec.toInt_eq_toNat_of_lt (by simp; omega)]; simp; omega
  unfold candidate
  rw [this, ofBits_126, ← EReal.coe_sub]
  push_cast; rfl

theorem exp2_candidate {i : Nat} (hi : i < 256) : Ideal.exp2 (candidate i) = (((2 : ℝ) ^ ((i : ℤ) - 126) : ℝ) : EReal) := by
  rw [candidate_eq hi]
  show ((Real.rpow 2 _ : ℝ) : EReal) = _
  congr 1
  exact Real.rpow_intCast 2 _

/-- The least exponent of a number with field `n` is `n - 126`. -/
theorem leastExponent_eq {r : ℝ} {n : Nat} (h : IsField r n) : leastExponent (r : EReal) = ((((n : ℤ) - 126 : ℤ) : ℝ) : EReal) := by
  obtain ⟨h0, hn, hlo, hhi⟩ := h
  have term : ∀ i : Fin 256, (if (r : EReal) < Ideal.exp2 (candidate i.val) then candidate i.val
      else Ideal.ofBits .f32 0x43010000#32) = if n ≤ i.val then ((((i.val : ℤ) - 126 : ℤ) : ℝ) : EReal) else ((129 : ℝ) : EReal) := by
    intro i
    have hiff : (r : EReal) < Ideal.exp2 (candidate i.val) ↔ n ≤ i.val := by
      rw [exp2_candidate i.isLt, EReal.coe_lt_coe_iff]
      constructor
      · intro hlt
        by_contra hgt
        rcases hlo with h0' | hlo
        · omega
        · have : (2 : ℝ) ^ ((i.val : ℤ) - 126) ≤ (2 : ℝ) ^ ((n : ℤ) - 127) := zpow_le_zpow_right₀ one_le_two (by omega)
          linarith
      · intro hle
        exact hhi.trans_le (zpow_le_zpow_right₀ one_le_two (by omega))
    by_cases hle : n ≤ i.val
    · rw [if_pos hle, if_pos (hiff.mpr hle), candidate_eq i.isLt]
    · rw [if_neg hle, if_neg (fun h => hle (hiff.mp h)), ofBits_129]
  unfold leastExponent
  simp only [term, ofBits_inf]
  apply le_antisymm
  · refine (Finset.fold_min_le _).mpr (Or.inr ⟨⟨n, by omega⟩, Finset.mem_univ _, ?_⟩)
    simp
  · refine (Finset.le_fold_min _).mpr ⟨le_top, fun i _ => ?_⟩
    split
    · rename_i hle
      rw [EReal.coe_le_coe_iff]; exact_mod_cast (by omega : (n : ℤ) - 126 ≤ (i.val : ℤ) - 126)
    · rw [EReal.coe_le_coe_iff]; exact_mod_cast (by omega : (n : ℤ) - 126 ≤ 129)

/-! ## The two agree -/

/-- `exp2` of an integer. -/
theorem exp2_int (k : ℤ) : Ideal.exp2 (((k : ℤ) : ℝ) : EReal) = (((2 : ℝ) ^ k : ℝ) : EReal) := by
  show ((Real.rpow 2 _ : ℝ) : EReal) = _
  congr 1
  exact Real.rpow_intCast 2 _

/-- For `0 ≤ r < 2 ^ 126` and `a` zero exactly with `r`, the kernel's scale and inverse are the reference's. -/
theorem scales_agree {r : ℝ} (h0 : 0 ≤ r) (h : r < (2 : ℝ) ^ (126 : ℤ)) {a : EReal} (ha : a = 0 ↔ r = 0) :
    kernelScale (r : EReal) = Ideal.exp2 (referenceExponent a (r : EReal))
      ∧ kernelInverse (r : EReal) = Ideal.exp2 (0 - referenceExponent a (r : EReal)) := by
  by_cases hr : r = 0
  · subst hr
    have he : referenceExponent a ((0 : ℝ) : EReal) = 0 := by
      unfold referenceExponent
      rw [if_pos (ha.mpr rfl)]
    have h1 : Ideal.exp2 0 = ((1 : ℝ) : EReal) := by
      have := exp2_int 0
      simpa using this
    rw [he, sub_zero, h1]
    exact kernel_zero
  · obtain ⟨n, hn⟩ := exists_isField h0 h
    have he : referenceExponent a (r : EReal) = ((((n : ℤ) - 126 : ℤ) : ℝ) : EReal) := by
      unfold referenceExponent
      rw [if_neg (mt ha.mp hr), leastExponent_eq hn]
    have hneg : (0 : EReal) - ((((n : ℤ) - 126 : ℤ) : ℝ) : EReal) = (((126 - (n : ℤ) : ℤ) : ℝ) : EReal) := by
      rw [show (0 : EReal) = ((0 : ℝ) : EReal) from rfl, ← EReal.coe_sub]
      congr 1; push_cast; ring
    rw [he, hneg, exp2_int, exp2_int]
    exact kernel_of_isField hn hr

end Cert.Qkv

end
-- ==== Proof.Spec.lean ====
/-
  What one row of the computation is, as plain functions of extended reals: a normalised row, its largest magnitude, its
  codes, its projection and its heads. They take as arguments the two functions `S` (the scale) and `I` (its inverse) of
  the row's largest magnitude, so that the kernel and the reference are each an instance.
-/
module

public import proofs.«01_k».proof.Proof.Exponent

@[expose] public section

noncomputable section

namespace Cert.Qkv

open Idealize.ShloMosaic

/-- A row `f` divided by its root mean square, times the gain `g`; `d` is the word of the row's length. -/
def rms (d : BitVec 32) {n : Nat} (f g : Fin n → EReal) (j : Fin n) : EReal :=
  f j * Ideal.rsqrt (Ideal.div (∑ k : Fin n, f k * f k) (Ideal.ofBits .f32 d) + Ideal.ofBits .f32 0x358637BD#32) * g j

/-- The first norm: a row of 5120 elements. -/
def normed (x g : Fin 5120 → EReal) : Fin 5120 → EReal := rms 0x45A00000#32 x g

/-- The largest magnitude of a row. -/
def amax {n : Nat} (h : Fin n → EReal) : EReal :=
  (Finset.univ : Finset (Fin n)).fold max (Ideal.ofBits .f32 0xFF800000#32) fun k => max (h k) (-(h k))

/-- That magnitude over 448 (times the float nearest to 1/448). -/
def over448 (a : EReal) : EReal := a * Ideal.ofBits .f32 0x3B124925#32

/-- The code of an element: times the inverse scale, clipped to ±448. -/
def codeOf (I : EReal → EReal) (h : Fin 5120 → EReal) (k : Fin 5120) : EReal :=
  min (Ideal.ofBits .f32 0x43E00000#32) (max (Ideal.ofBits .f32 0xC3E00000#32) (h k * I (amax h)))

/-- One column of the projection: the product of the codes with the weights, times the two scales. -/
def projOf (S I : EReal → EReal) (h : Fin 5120 → EReal) (W : Fin 5120 → Fin 3840 → EReal) (ws : Fin 3840 → EReal)
    (c : Fin 3840) : EReal :=
  (∑ k : Fin 5120, codeOf I h k * W k c) * S (amax h) * ws c

/-- Column `l` of the head `p` of the 30 that the projection holds side by side. -/
def column (p : Fin 30) (l : Fin 128) : Fin 3840 := ⟨p.val * 128 + l.val, by omega⟩

/-- The position of query head `h`: four of each group of six. -/
def queryHead (h : Fin 20) : Fin 30 := ⟨h.val / 4 * 6 + h.val % 4, by omega⟩
/-- The position of the key head of group `g`. -/
def keyHead (g : Fin 5) : Fin 30 := ⟨g.val * 6 + 4, by omega⟩
/-- The position of the value head of group `g`. -/
def valueHead (g : Fin 5) : Fin 30 := ⟨g.val * 6 + 5, by omega⟩

/-- A head of the projection, normalised with the gain `gain`. -/
def headOf (S I : EReal → EReal) (h : Fin 5120 → EReal) (W : Fin 5120 → Fin 3840 → EReal) (ws : Fin 3840 → EReal)
    (gain : Fin 128 → EReal) (p : Fin 30) (l : Fin 128) : EReal :=
  rms 0x43000000#32 (fun l' => projOf S I h W ws (column p l')) gain l

/-- The kernel's scale for a row of largest magnitude `a`. -/
def kernelS (a : EReal) : EReal := kernelScale (over448 a)
/-- The kernel's inverse scale. -/
def kernelI (a : EReal) : EReal := kernelInverse (over448 a)
/-- The reference's scale. -/
def referenceS (a : EReal) : EReal := Ideal.exp2 (referenceExponent a (over448 a))
/-- The reference's inverse scale. -/
def referenceI (a : EReal) : EReal := Ideal.exp2 (0 - referenceExponent a (over448 a))

end Cert.Qkv

end
-- ==== Proof.Bound.lean ====
/-
  A normalised row is bounded: each element over the root mean square is at most √5120, whatever the row holds, so with
  finite gains the row's largest magnitude is a real number well below the largest exponent. There the kernel's scale and
  inverse scale are the reference's.
-/
module

public import proofs.«01_k».proof.Proof.Spec

@[expose] public section

noncomputable section

namespace Cert.Qkv

open Idealize.ShloMosaic

theorem ofBits_5120 : Ideal.ofBits .f32 0x45A00000#32 = ((5120 : ℝ) : EReal) := by
  simp [Ideal.ofBits, Ideal.ieee, -EReal.coe_mul]; norm_num

/-- The small number added under the root is positive. -/
theorem ofBits_small : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The float nearest to 1/448 lies between 0 and 1/400. -/
theorem ofBits_over448 : ∃ c : ℝ, 0 < c ∧ c ≤ 1 / 400 ∧ Ideal.ofBits .f32 0x3B124925#32 = (c : EReal) := by
  refine ⟨9586981 * (2 : ℝ) ^ (-32 : ℤ), by positivity, by norm_num, ?_⟩
  simp [Ideal.ofBits, Ideal.ieee, -EReal.coe_mul]

/-- The largest finite number of the gains' format. -/
theorem ofBits_largest : ∃ b : ℝ, b ≤ 2 ^ 128 ∧ Ideal.ofBits .bf16 0x7F7F#16 = (b : EReal) := by
  refine ⟨255 * (2 : ℝ) ^ (120 : ℤ), by norm_num, ?_⟩
  simp [Ideal.ofBits, Ideal.ieee, -EReal.coe_mul]

/-- A magnitude at most a real number is that of a real number. -/
theorem real_of_magnitude_le {x : EReal} {b : ℝ} (h : max x (-x) ≤ (b : EReal)) : ∃ s : ℝ, x = s ∧ |s| ≤ b := by
  have h1 := (le_max_left x (-x)).trans h
  have h2 := (le_max_right x (-x)).trans h
  induction x with
  | bot => simp at h2
  | top => simp at h1
  | coe s =>
    refine ⟨s, rfl, abs_le.mpr ⟨?_, EReal.coe_le_coe_iff.mp h1⟩⟩
    have : -s ≤ b := by exact_mod_cast h2
    linarith

/-- A square is not negative. -/
theorem square_nonneg (x : EReal) : 0 ≤ x * x := by
  induction x with
  | bot => simp
  | top => simp
  | coe s => exact_mod_cast mul_self_nonneg s

/-- A sum of squares with an infinite element is infinite. -/
theorem sum_squares_top {n : Nat} (x : Fin n → EReal) {j : Fin n} (hj : x j * x j = ⊤) : ∑ k, x k * x k = ⊤ := by
  refine top_le_iff.mp ?_
  rw [← hj]
  exact Finset.single_le_sum (f := fun k => x k * x k) (fun k _ => square_nonneg (x k)) (Finset.mem_univ j)

/-- An element over the root mean square of its row of 5120 is a real number of magnitude at most 72. -/
theorem unit_bounded (x : Fin 5120 → EReal) (j : Fin 5120) : ∃ y : ℝ, |y| ≤ 72
    ∧ x j * Ideal.rsqrt (Ideal.div (∑ k, x k * x k) (Ideal.ofBits .f32 0x45A00000#32) + Ideal.ofBits .f32 0x358637BD#32)
        = (y : EReal) := by
  obtain ⟨e, he, hE⟩ := ofBits_small
  have h5 : ((5120 : ℝ) : EReal) ≠ 0 := by norm_num
  rw [ofBits_5120, hE, Ideal.div, if_neg h5, ← EReal.coe_inv]
  by_cases htop : ∃ k, x k * x k = ⊤
  · obtain ⟨k, hk⟩ := htop
    rw [sum_squares_top x hk, EReal.top_mul_of_pos (by exact_mod_cast (by norm_num : (0 : ℝ) < 5120⁻¹)), EReal.top_add_coe,
      Ideal.rsqrt_top, mul_zero]
    exact ⟨0, by norm_num, rfl⟩
  · have hreal : ∀ k, ∃ s : ℝ, x k = s := fun k => by
      have hk : x k * x k ≠ ⊤ := fun h => htop ⟨k, h⟩
      induction hx : x k with
      | bot => simp [hx] at hk
      | top => simp [hx] at hk
      | coe s => exact ⟨s, rfl⟩
    choose s hs using hreal
    have hsum : ∑ k, x k * x k = ((∑ k, s k * s k : ℝ) : EReal) := by
      simp only [hs, ← EReal.coe_mul]
      exact (map_sum (⟨⟨((↑) : ℝ → EReal), EReal.coe_zero⟩, EReal.coe_add⟩ : ℝ →+ EReal) _ _).symm
    have hj : s j * s j ≤ ∑ k, s k * s k :=
      Finset.single_le_sum (f := fun k => s k * s k) (fun k _ => mul_self_nonneg (s k)) (Finset.mem_univ j)
    rw [hsum, hs j]
    generalize (∑ k, s k * s k) = S at hj
    have hS : 0 ≤ S := (mul_self_nonneg _).trans hj
    have hpos : 0 < S * 5120⁻¹ + e := by positivity
    rw [← EReal.coe_mul, ← EReal.coe_add, Ideal.rsqrt_coe, if_neg (not_lt.mpr hpos.le), if_neg hpos.ne', ← EReal.coe_mul]
    refine ⟨_, ?_, rfl⟩
    rw [abs_mul, abs_of_pos (inv_pos.mpr (Real.sqrt_pos.mpr hpos)), ← div_eq_mul_inv, div_le_iff₀ (Real.sqrt_pos.mpr hpos)]
    refine abs_le_of_sq_le_sq ?_ (by positivity)
    rw [mul_pow, Real.sq_sqrt hpos.le]
    nlinarith

/-- The largest magnitude of a row of bounded real numbers is a real number with the same bound. -/
theorem amax_bounded {n : Nat} (h : Fin n → EReal) (j : Fin n) {B : ℝ} (hb : ∀ k, ∃ y : ℝ, |y| ≤ B ∧ h k = (y : EReal)) :
    ∃ A : ℝ, 0 ≤ A ∧ A ≤ B ∧ amax h = (A : EReal) := by
  have hlo : (0 : EReal) ≤ amax h := by
    unfold amax
    rw [Finset.le_fold_max]
    obtain ⟨y, _, hy⟩ := hb j
    refine Or.inr ⟨j, Finset.mem_univ j, ?_⟩
    rw [hy, ← EReal.coe_neg, ← EReal.coe_strictMono.monotone.map_max, ← abs_eq_max_neg]
    exact_mod_cast abs_nonneg y
  have hhi : amax h ≤ (B : EReal) := by
    unfold amax
    rw [Finset.fold_max_le]
    refine ⟨by rw [ofBits_neg_inf]; exact bot_le, fun k _ => ?_⟩
    obtain ⟨y, hB, hy⟩ := hb k
    rw [hy, ← EReal.coe_neg, ← EReal.coe_strictMono.monotone.map_max, ← abs_eq_max_neg]
    exact_mod_cast hB
  induction ha : amax h with
  | bot => simp [ha] at hlo
  | top => simp [ha] at hhi
  | coe A =>
    rw [ha] at hlo hhi
    exact ⟨A, by exact_mod_cast hlo, by exact_mod_cast hhi, rfl⟩

/-- With finite gains, the kernel's scale and inverse scale of a normalised row are the reference's. -/
theorem row_scales_agree (x g : Fin 5120 → EReal) (hg : ∀ k, ∃ s : ℝ, g k = s ∧ |s| ≤ 2 ^ 128) :
    kernelS (amax (normed x g)) = referenceS (amax (normed x g))
      ∧ kernelI (amax (normed x g)) = referenceI (amax (normed x g)) := by
  obtain ⟨A, h0, hB, hA⟩ := amax_bounded (normed x g) 0 (B := 72 * 2 ^ 128) fun k => by
    obtain ⟨y, hy, e⟩ := unit_bounded x k
    obtain ⟨s, hs, hb⟩ := hg k
    refine ⟨y * s, ?_, ?_⟩
    · rw [abs_mul]
      exact mul_le_mul hy hb (abs_nonneg s) (by norm_num)
    · rw [normed, rms, e, hs, EReal.coe_mul]
  obtain ⟨c, hc, hc', e⟩ := ofBits_over448
  rw [hA]
  unfold kernelS kernelI referenceS referenceI over448
  rw [e, ← EReal.coe_mul]
  refine scales_agree (mul_nonneg h0 hc.le) ?_ ?_
  · calc A * c ≤ 72 * 2 ^ 128 * (1 / 400) := mul_le_mul hB hc' hc.le (by positivity)
      _ < (2 : ℝ) ^ (126 : ℤ) := by norm_num
  · rw [EReal.coe_eq_zero, mul_eq_zero, or_iff_left hc.ne']

variable {S I S' I' : EReal → EReal} {h : Fin 5120 → EReal}

/-- Codes depend on the inverse scale at the row's largest magnitude alone. -/
theorem codeOf_congr (hI : I (amax h) = I' (amax h)) : codeOf I h = codeOf I' h := by
  funext k
  rw [codeOf, codeOf, hI]

/-- The projection depends on the two scales at the row's largest magnitude alone. -/
theorem projOf_congr (hS : S (amax h) = S' (amax h)) (hI : I (amax h) = I' (amax h)) : projOf S I h = projOf S' I' h := by
  funext W ws c
  rw [projOf, projOf, hS, codeOf_congr hI]

/-- So do the heads. -/
theorem headOf_congr (hS : S (amax h) = S' (amax h)) (hI : I (amax h) = I' (amax h)) : headOf S I h = headOf S' I' h := by
  funext W ws gain p l
  rw [headOf, headOf, projOf_congr hS hI]

end Cert.Qkv

end
-- ==== Proof.Gains.lean ====
/-
  The precondition, read: every weight of the norm is a real number of magnitude below 2 to the power 128.
-/
module

public import proofs.«01_k».proof.Pre_norm_w_finite
public import proofs.«01_k».proof.Proof.Bound
public import Idealize.ShloMosaic.Lib.Pointwise

@[expose] public section

noncomputable section

namespace Cert.Qkv

open Idealize.ShloMosaic Idealize.ShloMosaic.Tactic

/-- The side condition the precondition states. -/
theorem pre_facts : Cert.Pre_norm_w_finite.Facts where
  bcast_S_S5120 := by decide

/-- Where the precondition holds, every weight of the norm is a real number of bounded magnitude. -/
theorem gains_finite [Cert.Pre_norm_w_finite.Facts] (a0 : FVec Ideal Cert.Pre_norm_w_finite.S3x1024x5120 .bf16)
    (a1 : FVec Ideal Cert.Pre_norm_w_finite.S5120 .bf16) (a2 : FVec Ideal Cert.Pre_norm_w_finite.S5120x3840 .fp8e4m3)
    (a3 : FVec Ideal Cert.Pre_norm_w_finite.S3840 .f32) (a4 a5 : FVec Ideal Cert.Pre_norm_w_finite.S128 .bf16)
    (h : Cert.Pre_norm_w_finite.fn (F := Ideal) a0 a1 a2 a3 a4 a5 = fun _ => 1#1) (k : Fin 5120) :
    ∃ s : ℝ, a1 (ix1 k) = (s : EReal) ∧ |s| ≤ 2 ^ 128 := by
  have hk := congrFun h (ix1 k)
  have hr : Cert.Pre_norm_w_finite.fn (F := Ideal) a0 a1 a2 a3 a4 a5 (ix1 k)
      = BitVec.ofBool (decide (max (a1 (ix1 k)) (-(a1 (ix1 k))) ≤ Ideal.ofBits .bf16 0x7F7F#16)) := by
    pointwise [Cert.Pre_norm_w_finite.fn]
    simp only [Ideal.absf_def]
  rw [hr] at hk
  obtain ⟨b, hb, e⟩ := ofBits_largest
  have hle : max (a1 (ix1 k)) (-(a1 (ix1 k))) ≤ (b : EReal) := by
    rw [← e]
    by_contra hn
    rw [decide_eq_false hn] at hk
    exact absurd hk (by decide)
  obtain ⟨s, hs, hb'⟩ := real_of_magnitude_le hle
  exact ⟨s, hs, hb'.trans hb⟩

end Cert.Qkv

end
-- ==== Proof.ReferenceRead.lean ====
/-
  The reference's results, read at an index: each is the plain function of `Spec` of the row it belongs to.
-/
module

public import proofs.«01_k».proof.Proof.Spec
public import proofs.«01_k».proof.Proof.Gen.ReferenceIdeal.Value

@[expose] public section

set_option maxRecDepth 16384

noncomputable section

namespace Cert.Qkv.Reference

open Cert.ReferenceIdeal Cert.ReferenceIdeal.Gen Idealize.ShloMosaic Idealize.ShloMosaic.TcCoe Idealize.ShloMosaic.Tactic

variable (a0 : Vec Ideal S3x1024x5120 .bf16) (a1 : Vec Ideal S5120 .bf16) (a2 : Vec Ideal S5120x3840 .fp8e4m3)
  (a3 : Vec Ideal S3840 .f32) (a4 a5 : Vec Ideal S128 .bf16)

/-- `exp2` at the extended reals. -/
theorem exp2_def (x : EReal) : FloatOps.exp2 (F := Ideal) (φ := .f32) x = Ideal.exp2 x := rfl

/-- The normalised row of token `r` of batch `b`. -/
def row (b : Fin 3) (r : Fin 1024) : Fin 5120 → EReal := normed (fun k => a0 (ix3 b r k)) (fun k => a1 (ix1 k))

/-- The payload of the first norm is the normalised row. -/
theorem pay3_apply (b : Fin 3) (r : Fin 1024) (l : Fin 5120) : k0_pay3 a0 a1 (ix3 b r l) = row a0 a1 b r l := by
  pointwise [k0_pay3]
  simp only [row, normed, rms]

/-- The largest magnitude of each row, as the reference computes it. -/
def topV (h : FVec Ideal S3x1024x5120 .f32) : FVec Ideal S3x1024x1 .f32 :=
  shapeCast S3x1024x1 (multiReduction .maximumf [2] S3x1024 (absf h) 0xFF800000#32 reduces_S3x1024x5120_S3x1024 (.inl rfl) rfl) shapeCasts_S3x1024_S3x1024x1

theorem topV_apply (h : FVec Ideal S3x1024x5120 .f32) (b : Fin 3) (r : Fin 1024) (l : Fin 1) :
    topV h (ix3 b r l) = amax fun k => h (ix3 b r k) := by
  pointwise [topV]
  simp only [Ideal.absf_def, amax]

/-- The candidate exponents, as the reference computes them. -/
def candidatesV : FVec Ideal S3x1024x256 .f32 :=
  subf (sitofp .f32 (iota .tc S3x1024x256 32 [2] iota_S3x1024x256_d2_w32)) (broadcast S3x1024x256 (Scalar.ofBits .f32 0x42FC0000#32))

theorem candidatesV_apply (b : Fin 3) (r : Fin 1024) (l : Fin 256) : candidatesV (ix3 b r l) = candidate l.val := by
  pointwise [candidatesV]
  rfl

/-- The least candidate above `t`, as the reference computes it. -/
def leastV (t : FVec Ideal S3x1024x1 .f32) (c : FVec Ideal S3x1024x256 .f32) : FVec Ideal S3x1024x1 .f32 :=
  shapeCast S3x1024x1 (multiReduction .minimumf [2] S3x1024
    (select (cmpf .olt (broadcastTo S3x1024x256 t broadcasts_S3x1024x1_S3x1024x256) (exp2 c)) c (broadcast S3x1024x256 (Scalar.ofBits .f32 0x43010000#32)))
    0x7F800000#32 reduces_S3x1024x256_S3x1024 (.inl rfl) rfl) shapeCasts_S3x1024_S3x1024x1

theorem leastV_apply (t : FVec Ideal S3x1024x1 .f32) (c : FVec Ideal S3x1024x256 .f32) (b : Fin 3) (r : Fin 1024) (l : Fin 1) :
    leastV t c (ix3 b r l) = (Finset.univ : Finset (Fin 256)).fold min (Ideal.ofBits .f32 0x7F800000#32) fun i =>
      if t (ix3 b r 0) < Ideal.exp2 (c (ix3 b r i)) then c (ix3 b r i) else Ideal.ofBits .f32 0x43010000#32 := by
  pointwise [leastV]
  rfl

/-- The exponent, as the reference computes it from the largest magnitude. -/
def exponentV (a e : FVec Ideal S3x1024x1 .f32) :
    FVec Ideal S3x1024x1 .f32 :=
  select (cmpf .oeq a (broadcast S3x1024x1 (Scalar.ofBits .f32 0x00000000#32))) (broadcast S3x1024x1 (Scalar.ofBits .f32 0x00000000#32)) e

/-- The largest magnitude over 448, as the reference computes it. -/
def over448V (a : FVec Ideal S3x1024x1 .f32) : FVec Ideal S3x1024x1 .f32 :=
  mulf a (broadcast S3x1024x1 (Scalar.ofBits .f32 0x3B124925#32))

theorem over448V_apply (a : FVec Ideal S3x1024x1 .f32) (b : Fin 3) (r : Fin 1024) (l : Fin 1) :
    over448V a (ix3 b r l) = over448 (a (ix3 b r l)) := by
  pointwise [over448V]
  rw [over448]

theorem exponentV_apply (a e : FVec Ideal S3x1024x1 .f32) (b : Fin 3) (r : Fin 1024) (l : Fin 1) :
    exponentV a e (ix3 b r l) = if a (ix3 b r l) = 0 then 0 else e (ix3 b r l) := by
  pointwise [exponentV]

/-- The reference's exponent, as a function of the normalised rows. -/
theorem pay4_eq : k0_pay4 a0 a1
    = exponentV (topV (k0_pay3 a0 a1)) (leastV (over448V (topV (k0_pay3 a0 a1))) candidatesV) := rfl

/-- The same of any rows, read. -/
theorem exponent_apply (h : FVec Ideal S3x1024x5120 .f32) (b : Fin 3) (r : Fin 1024) (l : Fin 1) :
    exponentV (topV h) (leastV (over448V (topV h)) candidatesV) (ix3 b r l)
      = referenceExponent (amax fun k => h (ix3 b r k)) (over448 (amax fun k => h (ix3 b r k))) := by
  simp only [exponentV_apply, leastV_apply, over448V_apply, topV_apply, candidatesV_apply, referenceExponent, leastExponent]

/-- The rows, read. -/
theorem pay3_row (b : Fin 3) (r : Fin 1024) : (fun k => k0_pay3 a0 a1 (ix3 b r k)) = row a0 a1 b r :=
  funext fun k => pay3_apply a0 a1 b r k

/-- The payload of the exponent. -/
theorem pay4_apply (b : Fin 3) (r : Fin 1024) (l : Fin 1) :
    k0_pay4 a0 a1 (ix3 b r l) = referenceExponent (amax (row a0 a1 b r)) (over448 (amax (row a0 a1 b r))) := by
  rw [pay4_eq, exponent_apply, pay3_row]

/-- A function of a row's exponent spread over the row, and times the row. -/
def scaledV (h : FVec Ideal S3x1024x5120 .f32) (e : FVec Ideal S3x1024x1 .f32) : FVec Ideal S3x1024x5120 .f32 :=
  mulf h (broadcastTo S3x1024x5120 (exp2 (subf (broadcast S3x1024x1 (Scalar.ofBits .f32 0x00000000#32)) e)) broadcasts_S3x1024x1_S3x1024x5120)

theorem scaledV_apply (h : FVec Ideal S3x1024x5120 .f32) (e : FVec Ideal S3x1024x1 .f32) (b : Fin 3) (r : Fin 1024) (l : Fin 5120) :
    scaledV h e (ix3 b r l) = h (ix3 b r l) * Ideal.exp2 (0 - e (ix3 b r 0)) := by
  pointwise [scaledV]
  rw [exp2_def]

/-- The codes of the scaled rows. -/
theorem pay7_read (v : FVec Ideal S3x1024x5120 .f32) (lo hi : Ideal .f32) (b : Fin 3) (r : Fin 1024) (k : Fin 5120) :
    k0_pay7 v lo hi (ix3 b r k) = min hi (max lo (v (ix3 b r k))) := by
  pointwise [k0_pay7]

/-- The projection of codes `q` at the scales `s`, `ws`, cut in groups of six heads. -/
def projV (q : FVec Ideal S3x1024x5120 .fp8e4m3) (s : FVec Ideal S3x1024x1 .f32) (W : FVec Ideal S5120x3840 .fp8e4m3)
    (ws : FVec Ideal S3840 .f32) : FVec Ideal S3x1024x5x6x128 .f32 :=
  shapeCast S3x1024x5x6x128 (mulf (mulf (matmul (φ₂ := .fp8e4m3) dot_S3x1024x5120_S5120x3840_S3x1024x3840_2_0_01_1_n_n none q W
      (constant S3x1024x3840 .f32 0x00000000#32)) (broadcastTo S3x1024x3840 s broadcasts_S3x1024x1_S3x1024x3840))
    (broadcastTo S3x1024x3840 (shapeCast S1x1x3840 ws shapeCasts_S3840_S1x1x3840) broadcasts_S1x1x3840_S3x1024x3840))
    shapeCasts_S3x1024x3840_S3x1024x5x6x128

theorem projV_apply (q : FVec Ideal S3x1024x5120 .fp8e4m3) (s : FVec Ideal S3x1024x1 .f32) (W : FVec Ideal S5120x3840 .fp8e4m3)
    (ws : FVec Ideal S3840 .f32) (b : Fin 3) (r : Fin 1024) (g : Fin 5) (i : Fin 6) (l : Fin 128) :
    projV q s W ws (ix5 b r g i l) = (∑ k : Fin 5120, q (ix3 b r k) * W (ix2 k (column ⟨g.val * 6 + i.val, by omega⟩ l)))
      * s (ix3 b r 0) * ws (ix1 (column ⟨g.val * 6 + i.val, by omega⟩ l)) := by
  have hc : column ⟨g.val * 6 + i.val, by omega⟩ l = ⟨g.val * 768 + i.val * 128 + l.val, by omega⟩ :=
    Fin.ext (show (g.val * 6 + i.val) * 128 + l.val = g.val * 768 + i.val * 128 + l.val by ring)
  pointwise [projV]
  rw [hc]

/-- The query heads of the grouped projection. -/
def queryV (p : FVec Ideal S3x1024x5x6x128 .f32) : FVec Ideal S3x1024x20x128 .f32 :=
  shapeCast S3x1024x20x128 (extractStridedSlice S3x1024x5x4x128 ![0, 0, 0, 0, 0] p slices_S3x1024x5x6x128_o0_0_0_0_0_S3x1024x5x4x128) shapeCasts_S3x1024x5x4x128_S3x1024x20x128

theorem queryV_apply (p : FVec Ideal S3x1024x5x6x128 .f32) (b : Fin 3) (r : Fin 1024) (h : Fin 20) (l : Fin 128) :
    queryV p (ix4 b r h l) = p (ix5 b r ⟨h.val / 4, by omega⟩ ⟨h.val % 4, by omega⟩ l) := by
  pointwise [queryV]

/-- The key heads of the grouped projection. -/
def keyV (p : FVec Ideal S3x1024x5x6x128 .f32) : FVec Ideal S3x1024x5x128 .f32 :=
  shapeCast S3x1024x5x128 (extractStridedSlice S3x1024x5x1x128 ![0, 0, 0, 4, 0] p slices_S3x1024x5x6x128_o0_0_0_4_0_S3x1024x5x1x128) shapeCasts_S3x1024x5x1x128_S3x1024x5x128

theorem keyV_apply (p : FVec Ideal S3x1024x5x6x128 .f32) (b : Fin 3) (r : Fin 1024) (h : Fin 5) (l : Fin 128) :
    keyV p (ix4 b r h l) = p (ix5 b r h 4 l) := by
  pointwise [keyV]

/-- The value heads of the grouped projection. -/
def valueV (p : FVec Ideal S3x1024x5x6x128 .f32) : FVec Ideal S3x1024x5x128 .f32 :=
  shapeCast S3x1024x5x128 (extractStridedSlice S3x1024x5x1x128 ![0, 0, 0, 5, 0] p slices_S3x1024x5x6x128_o0_0_0_5_0_S3x1024x5x1x128) shapeCasts_S3x1024x5x1x128_S3x1024x5x128

theorem valueV_apply (p : FVec Ideal S3x1024x5x6x128 .f32) (b : Fin 3) (r : Fin 1024) (h : Fin 5) (l : Fin 128) :
    valueV p (ix4 b r h l) = p (ix5 b r h 5 l) := by
  pointwise [valueV]

/-- The mean square of each query head. -/
def meanQueryV (v : FVec Ideal S3x1024x20x128 .f32) : FVec Ideal S3x1024x20x1 .f32 :=
  divf (shapeCast S3x1024x20x1 (multiReduction .add [3] S3x1024x20 (mulf v v) 0x00000000#32 reduces_S3x1024x20x128_S3x1024x20 (.inl rfl) rfl)
    shapeCasts_S3x1024x20_S3x1024x20x1) (broadcast S3x1024x20x1 (Scalar.ofBits .f32 0x43000000#32))

theorem meanQueryV_apply (v : FVec Ideal S3x1024x20x128 .f32) (b : Fin 3) (r : Fin 1024) (h : Fin 20) (l : Fin 1) :
    meanQueryV v (ix4 b r h l) = Ideal.div (∑ k : Fin 128, v (ix4 b r h k) * v (ix4 b r h k)) (Ideal.ofBits .f32 0x43000000#32) := by
  pointwise [meanQueryV]

/-- The query heads normalised. -/
def normQueryV (v : FVec Ideal S3x1024x20x128 .f32) (s : FVec Ideal S3x1024x20x1 .f32) (gain : FVec Ideal S128 .bf16) : FVec Ideal S3x1024x20x128 .bf16 :=
  truncf .bf16 (mulf (mulf v (broadcastTo S3x1024x20x128
      (rsqrt (addf s (broadcast S3x1024x20x1 (Scalar.ofBits .f32 0x358637BD#32)))) broadcasts_S3x1024x20x1_S3x1024x20x128))
    (broadcastTo S3x1024x20x128 (shapeCast S1x1x1x128 (extf .f32 gain bitsLt_bf16_f32) shapeCasts_S128_S1x1x1x128) broadcasts_S1x1x1x128_S3x1024x20x128)) bitsLt_bf16_f32

theorem normQueryV_apply (v : FVec Ideal S3x1024x20x128 .f32) (s : FVec Ideal S3x1024x20x1 .f32) (gain : FVec Ideal S128 .bf16)
    (b : Fin 3) (r : Fin 1024) (h : Fin 20) (l : Fin 128) :
    normQueryV v s gain (ix4 b r h l)
      = v (ix4 b r h l) * Ideal.rsqrt (s (ix4 b r h 0) + Ideal.ofBits .f32 0x358637BD#32) * gain (ix1 l) := by
  pointwise [normQueryV]

/-- The mean square of each key head. -/
def meanKeyV (v : FVec Ideal S3x1024x5x128 .f32) : FVec Ideal S3x1024x5x1 .f32 :=
  divf (shapeCast S3x1024x5x1 (multiReduction .add [3] S3x1024x5 (mulf v v) 0x00000000#32 reduces_S3x1024x5x128_S3x1024x5 (.inl rfl) rfl)
    shapeCasts_S3x1024x5_S3x1024x5x1) (broadcast S3x1024x5x1 (Scalar.ofBits .f32 0x43000000#32))

theorem meanKeyV_apply (v : FVec Ideal S3x1024x5x128 .f32) (b : Fin 3) (r : Fin 1024) (h : Fin 5) (l : Fin 1) :
    meanKeyV v (ix4 b r h l) = Ideal.div (∑ k : Fin 128, v (ix4 b r h k) * v (ix4 b r h k)) (Ideal.ofBits .f32 0x43000000#32) := by
  pointwise [meanKeyV]

/-- The key heads normalised. -/
theorem pay1_apply (v : FVec Ideal S3x1024x5x128 .f32) (gain : FVec Ideal S128 .bf16) (s : FVec Ideal S3x1024x5x1 .f32)
    (b : Fin 3) (r : Fin 1024) (h : Fin 5) (l : Fin 128) :
    k0_pay1 v gain s (Scalar.ofBits .f32 0x358637BD#32) (ix4 b r h l)
      = v (ix4 b r h l) * Ideal.rsqrt (s (ix4 b r h 0) + Ideal.ofBits .f32 0x358637BD#32) * gain (ix1 l) := by
  pointwise [k0_pay1]

/-- The value heads as they are. -/
theorem pay2_apply (v : FVec Ideal S3x1024x5x128 .f32) (b : Fin 3) (r : Fin 1024) (h : Fin 5) (l : Fin 128) :
    k0_pay2 v (ix4 b r h l) = v (ix4 b r h l) := by
  pointwise [k0_pay2]

/-! ## The results -/

/-- The scale of a row. -/
theorem pay5_apply (b : Fin 3) (r : Fin 1024) (l : Fin 1) :
    k0_pay5 a0 a1 (ix3 b r l) = referenceS (amax (row a0 a1 b r)) := by
  have h : k0_pay5 a0 a1 = exp2 (k0_pay4 a0 a1) := rfl
  have h' : ∀ e : FVec Ideal S3x1024x1 .f32, exp2 e (ix3 b r l) = Ideal.exp2 (e (ix3 b r l)) := fun e => rfl
  rw [h, h', pay4_apply, referenceS]

/-- The row times the inverse scale. -/
theorem pay6_apply (b : Fin 3) (r : Fin 1024) (k : Fin 5120) :
    k0_pay6 a0 a1 (ix3 b r k) = row a0 a1 b r k * referenceI (amax (row a0 a1 b r)) := by
  have h : k0_pay6 a0 a1 = scaledV (k0_pay3 a0 a1) (k0_pay4 a0 a1) := rfl
  rw [h, scaledV_apply, pay3_apply, pay4_apply, referenceI]

/-- The codes. -/
def codes : FVec Ideal S3x1024x5120 .fp8e4m3 :=
  k0_pay7 (k0_pay6 a0 a1) (Scalar.ofBits .f32 0xC3E00000#32) (Scalar.ofBits .f32 0x43E00000#32)

theorem codes_apply (b : Fin 3) (r : Fin 1024) (k : Fin 5120) :
    codes a0 a1 (ix3 b r k) = codeOf referenceI (row a0 a1 b r) k := by
  have lo : (Scalar.ofBits .f32 0xC3E00000#32 : Ideal .f32) = Ideal.ofBits .f32 0xC3E00000#32 := rfl
  have hi : (Scalar.ofBits .f32 0x43E00000#32 : Ideal .f32) = Ideal.ofBits .f32 0x43E00000#32 := rfl
  rw [codes, pay7_read, pay6_apply, codeOf, lo, hi]

/-- The grouped projection. -/
def grouped : FVec Ideal S3x1024x5x6x128 .f32 := projV (codes a0 a1) (k0_pay5 a0 a1) a2 a3

/-- The weights by row and column, and their scales by column. -/
abbrev weights : Fin 5120 → Fin 3840 → EReal := fun k c => a2 (ix2 k c)
abbrev weightScales : Fin 3840 → EReal := fun c => a3 (ix1 c)

theorem grouped_apply (b : Fin 3) (r : Fin 1024) (g : Fin 5) (i : Fin 6) (l : Fin 128) :
    grouped a0 a1 a2 a3 (ix5 b r g i l)
      = projOf referenceS referenceI (row a0 a1 b r) (weights a2) (weightScales a3) (column ⟨g.val * 6 + i.val, by omega⟩ l) := by
  rw [grouped, projV_apply, pay5_apply, projOf]
  simp only [codes_apply]

/-- The scale of the run is the payload of the whole arguments. -/
theorem pay13_eq : k0_pay13 a0 a1 a2 a3 a4 a5 = k0_pay5 a0 a1 := by
  unfold k0_pay13
  rw [View.ld_unit_zero (S := S3x1024x5120) Cert.ReferenceIdeal.Value.hz0 _ a0, View.ld_unit_zero (S := S5120) Cert.ReferenceIdeal.Value.hz1 _ a1]

/-- The scaled rows of the run are the payload of the whole arguments. -/
theorem pay14_eq : k0_pay14 a0 a1 a2 a3 a4 a5 = k0_pay6 a0 a1 := by
  unfold k0_pay14
  rw [View.ld_unit_zero (S := S3x1024x5120) Cert.ReferenceIdeal.Value.hz0 _ a0, View.ld_unit_zero (S := S5120) Cert.ReferenceIdeal.Value.hz1 _ a1]

/-- THE QUERIES: the head of the row, normalised with the query gain. -/
theorem query_read (b : Fin 3) (r : Fin 1024) (h : Fin 20) (l : Fin 128) :
    Cert.ReferenceIdeal.Value.G6 a0 a1 a2 a3 a4 a5 (ix4 b r h l)
      = headOf referenceS referenceI (row a0 a1 b r) (weights a2) (weightScales a3) (fun l' => a4 (ix1 l')) (queryHead h) l := by
  have hG : Cert.ReferenceIdeal.Value.G6 a0 a1 a2 a3 a4 a5
      = normQueryV (queryV (grouped a0 a1 a2 a3)) (meanQueryV (queryV (grouped a0 a1 a2 a3))) a4 := by
    unfold Cert.ReferenceIdeal.Value.G6
    rw [pay13_eq, pay14_eq]
    rfl
  rw [hG, normQueryV_apply, meanQueryV_apply]
  simp only [queryV_apply, grouped_apply]
  rfl

/-- THE KEYS: the head of the row, normalised with the key gain. -/
theorem key_read (b : Fin 3) (r : Fin 1024) (g : Fin 5) (l : Fin 128) :
    Cert.ReferenceIdeal.Value.G7 a0 a1 a2 a3 a4 a5 (ix4 b r g l)
      = headOf referenceS referenceI (row a0 a1 b r) (weights a2) (weightScales a3) (fun l' => a5 (ix1 l')) (keyHead g) l := by
  have hG : Cert.ReferenceIdeal.Value.G7 a0 a1 a2 a3 a4 a5
      = k0_pay1 (keyV (grouped a0 a1 a2 a3)) a5 (meanKeyV (keyV (grouped a0 a1 a2 a3)))
        (Scalar.ofBits .f32 0x358637BD#32) := by
    unfold Cert.ReferenceIdeal.Value.G7
    rw [pay13_eq, pay14_eq]
    rfl
  rw [hG, pay1_apply, meanKeyV_apply]
  simp only [keyV_apply, grouped_apply]
  rfl

/-- THE VALUES: the head of the row as it is. -/
theorem value_read (b : Fin 3) (r : Fin 1024) (g : Fin 5) (l : Fin 128) :
    Cert.ReferenceIdeal.Value.G8 a0 a1 a2 a3 a4 a5 (ix4 b r g l)
      = projOf referenceS referenceI (row a0 a1 b r) (weights a2) (weightScales a3) (column (valueHead g) l) := by
  have hG : Cert.ReferenceIdeal.Value.G8 a0 a1 a2 a3 a4 a5 = k0_pay2 (valueV (grouped a0 a1 a2 a3)) := by
    unfold Cert.ReferenceIdeal.Value.G8
    rw [pay13_eq, pay14_eq]
    rfl
  rw [hG, pay2_apply, valueV_apply, grouped_apply]
  rfl

/-- THE CODES. -/
theorem codes_read (b : Fin 3) (r : Fin 1024) (k : Fin 5120) :
    Cert.ReferenceIdeal.Value.G9 a0 a1 a2 a3 a4 a5 (ix3 b r k) = codeOf referenceI (row a0 a1 b r) k := by
  have hG : Cert.ReferenceIdeal.Value.G9 a0 a1 a2 a3 a4 a5 = codes a0 a1 := by
    unfold Cert.ReferenceIdeal.Value.G9
    rw [pay14_eq]
    rfl
  rw [hG, codes_apply]

/-- THE SCALES. -/
theorem scale_read (b : Fin 3) (r : Fin 1024) (l : Fin 1) :
    Cert.ReferenceIdeal.Value.G10 a0 a1 a2 a3 a4 a5 (ix3 b r l) = referenceS (amax (row a0 a1 b r)) := by
  unfold Cert.ReferenceIdeal.Value.G10
  rw [pay13_eq, pay5_apply]

end Cert.Qkv.Reference

end
-- ==== Proof.Results.lean ====
/-
  The reference's results with the kernel's scales in place of its own: with finite weights of the norm each is the same
  plain function of `Spec`.
-/
module

public import proofs.«01_k».proof.Proof.ReferenceRead
public import proofs.«01_k».proof.Proof.Bound

@[expose] public section

set_option maxRecDepth 16384

noncomputable section

namespace Cert.Qkv.Reference

open Cert.ReferenceIdeal Cert.ReferenceIdeal.Gen Cert.ReferenceIdeal.Value Idealize.ShloMosaic Idealize.ShloMosaic.TcCoe Idealize.ShloMosaic.Tactic

variable (a0 : Vec Ideal S3x1024x5120 .bf16) (a1 : Vec Ideal S5120 .bf16) (a2 : Vec Ideal S5120x3840 .fp8e4m3)
  (a3 : Vec Ideal S3840 .f32) (a4 a5 : Vec Ideal S128 .bf16)
  (hg : ∀ k : Fin 5120, ∃ s : ℝ, a1 (ix1 k) = (s : EReal) ∧ |s| ≤ 2 ^ 128)

include hg

/-- The two sides' scales and inverse scales of a row. -/
theorem row_agree (b : Fin 3) (r : Fin 1024) :
    kernelS (amax (row a0 a1 b r)) = referenceS (amax (row a0 a1 b r))
      ∧ kernelI (amax (row a0 a1 b r)) = referenceI (amax (row a0 a1 b r)) :=
  row_scales_agree (fun k => a0 (ix3 b r k)) (fun k => a1 (ix1 k)) hg

/-- The queries. -/
theorem query_agree : G6 a0 a1 a2 a3 a4 a5 = fun y => headOf kernelS kernelI (row a0 a1 (y 0) (y 1)) (weights a2)
    (weightScales a3) (fun l => a4 (ix1 l)) (queryHead (y 2)) (y 3) := by
  funext y
  obtain ⟨hS, hI⟩ := row_agree a0 a1 hg (y 0) (y 1)
  rw [headOf_congr hS hI]
  conv_lhs => rw [eq_ix4 y]
  exact query_read a0 a1 a2 a3 a4 a5 _ _ _ _

/-- The keys. -/
theorem key_agree : G7 a0 a1 a2 a3 a4 a5 = fun y => headOf kernelS kernelI (row a0 a1 (y 0) (y 1)) (weights a2)
    (weightScales a3) (fun l => a5 (ix1 l)) (keyHead (y 2)) (y 3) := by
  funext y
  obtain ⟨hS, hI⟩ := row_agree a0 a1 hg (y 0) (y 1)
  rw [headOf_congr hS hI]
  conv_lhs => rw [eq_ix4 y]
  exact key_read a0 a1 a2 a3 a4 a5 _ _ _ _

/-- The values. -/
theorem value_agree : G8 a0 a1 a2 a3 a4 a5 = fun y => projOf kernelS kernelI (row a0 a1 (y 0) (y 1)) (weights a2)
    (weightScales a3) (column (valueHead (y 2)) (y 3)) := by
  funext y
  obtain ⟨hS, hI⟩ := row_agree a0 a1 hg (y 0) (y 1)
  rw [projOf_congr hS hI]
  conv_lhs => rw [eq_ix4 y]
  exact value_read a0 a1 a2 a3 a4 a5 _ _ _ _

/-- The codes. -/
theorem codes_agree : G9 a0 a1 a2 a3 a4 a5 = fun y => codeOf kernelI (row a0 a1 (y 0) (y 1)) (y 2) := by
  funext y
  rw [codeOf_congr (row_agree a0 a1 hg (y 0) (y 1)).2]
  conv_lhs => rw [eq_ix3 y]
  exact codes_read a0 a1 a2 a3 a4 a5 _ _ _

/-- The scales. -/
theorem scale_agree : G10 a0 a1 a2 a3 a4 a5 = fun y => kernelS (amax (row a0 a1 (y 0) (y 1))) := by
  funext y
  rw [(row_agree a0 a1 hg (y 0) (y 1)).1]
  conv_lhs => rw [eq_ix3 y]
  exact scale_read a0 a1 a2 a3 a4 a5 _ _ _

end Cert.Qkv.Reference

end
-- ==== Proof.KernelVec.lean ====
/-
  The kernel's vectors for one block of 256 tokens, each read at an index: the plain functions of `Spec`.
-/
module

public import proofs.«01_k».proof.Proof.Spec
public import proofs.«01_k».proof.Proof.Gen.KernelIdeal.Skeleton

@[expose] public section

set_option maxRecDepth 16384

noncomputable section

namespace Cert.Qkv.Kernel

open Cert.KernelIdeal Cert.KernelIdeal.Gen Idealize.ShloMosaic Idealize.ShloMosaic.TcCoe Idealize.ShloMosaic.Tactic

/-! ## The row -/

/-- The normalised row of token `r` of a block. -/
def row (x0 : FVec Ideal S1x256x5120 .bf16) (x1 : FVec Ideal S1x5120 .bf16) (r : Fin 256) : Fin 5120 → EReal :=
  normed (fun k => x0 (ix3 0 r k)) (fun k => x1 (ix2 0 k))

/-- The first norm. -/
theorem pay3_apply (x0 : FVec Ideal S1x256x5120 .bf16) (x1 : FVec Ideal S1x5120 .bf16) (r : Fin 256) (l : Fin 5120) :
    k0_pay3 (F := Ideal) x0 x1 (ix2 r l) = row x0 x1 r l := by
  pointwise [k0_pay3]
  simp only [row, normed, rms]

theorem pay3_row (x0 : FVec Ideal S1x256x5120 .bf16) (x1 : FVec Ideal S1x5120 .bf16) (r : Fin 256) :
    (fun k => k0_pay3 (F := Ideal) x0 x1 (ix2 r k)) = row x0 x1 r := funext fun k => pay3_apply x0 x1 r k

/-- The largest magnitude of each row. -/
def topV (h : FVec Ideal S256x5120 .f32) : FVec Ideal S256x1 .f32 :=
  shapeCast S256x1 (multiReduction .maximumf [1] S256 (absf h) 0xFF800000#32 reduces_S256x5120_S256 (.inl rfl) rfl) shapeCasts_S256_S256x1

theorem topV_apply (h : FVec Ideal S256x5120 .f32) (r : Fin 256) (l : Fin 1) :
    topV h (ix2 r l) = amax fun k => h (ix2 r k) := by
  pointwise [topV]
  simp only [Ideal.absf_def, amax]

/-- That magnitude over 448. -/
def over448V (a : FVec Ideal S256x1 .f32) : FVec Ideal S256x1 .f32 :=
  mulf a (broadcast S256x1 (Scalar.ofBits .f32 0x3B124925#32))

theorem over448V_apply (a : FVec Ideal S256x1 .f32) (r : Fin 256) (l : Fin 1) :
    over448V a (ix2 r l) = over448 (a (ix2 r l)) := by
  pointwise [over448V]
  rw [over448]

/-! ## The exponent -/

/-- One step of the search for the exponent field. -/
def searchV (t : FVec Ideal S256x1 .f32) (s : BitVec 32) (f : IVec S256x1 32) : IVec S256x1 32 :=
  select (cmpf .oge t (bitcastToFloat .f32 (shli (addi f (broadcast S256x1 s)) (broadcast S256x1 23#32))))
    (addi f (broadcast S256x1 s)) f

theorem searchV_apply (t : FVec Ideal S256x1 .f32) (s : BitVec 32) (f : IVec S256x1 32) (r : Fin 256) (l : Fin 1) :
    searchV t s f (ix2 r l) = searchStep (t (ix2 r l)) s (f (ix2 r l)) := by
  pointwise [searchV]
  rw [searchStep]

/-- The whole search. -/
def fieldV (t : FVec Ideal S256x1 .f32) : IVec S256x1 32 :=
  searchV t 1#32 (searchV t 2#32 (searchV t 4#32 (searchV t 8#32 (searchV t 16#32
    (searchV t 32#32 (searchV t 64#32 (searchV t 128#32 (broadcast S256x1 0#32))))))))

theorem fieldV_apply (t : FVec Ideal S256x1 .f32) (r : Fin 256) (l : Fin 1) :
    fieldV t (ix2 r l) = searchField (t (ix2 r l)) := by
  simp only [fieldV, searchV_apply, searchField]
  rfl

/-- The exponent. -/
def exponentV (t : FVec Ideal S256x1 .f32) (f : IVec S256x1 32) : IVec S256x1 32 :=
  select (cmpf .oeq t (broadcast S256x1 (Scalar.ofBits .f32 0x00000000#32))) (broadcast S256x1 0#32) (subi f (broadcast S256x1 126#32))

theorem exponentV_apply (t : FVec Ideal S256x1 .f32) (f : IVec S256x1 32) (r : Fin 256) (l : Fin 1) :
    exponentV t f (ix2 r l) = if t (ix2 r l) = 0 then 0#32 else IntOp.subi (f (ix2 r l)) 126#32 := by
  pointwise [exponentV]

/-- The exponent of each row of a block, as the body computes it. -/
def expoV (x0 : FVec Ideal S1x256x5120 .bf16) (x1 : FVec Ideal S1x5120 .bf16) : IVec S256x1 32 :=
  k0_pay8 (k0_pay4 (F := Ideal) x0 x1) (k0_pay5 (F := Ideal) x0 x1) (k0_pay6 (F := Ideal) x0 x1) (k0_pay7 (F := Ideal) x0 x1)

theorem expoV_eq (x0 : FVec Ideal S1x256x5120 .bf16) (x1 : FVec Ideal S1x5120 .bf16) :
    expoV x0 x1 = exponentV (over448V (topV (k0_pay3 (F := Ideal) x0 x1))) (fieldV (over448V (topV (k0_pay3 (F := Ideal) x0 x1)))) := rfl

theorem expo_read (h : FVec Ideal S256x5120 .f32) (r : Fin 256) (l : Fin 1) :
    exponentV (over448V (topV h)) (fieldV (over448V (topV h))) (ix2 r l)
      = kernelExponent (over448 (amax fun k => h (ix2 r k))) := by
  simp only [exponentV_apply, fieldV_apply, over448V_apply, topV_apply, kernelExponent]

theorem expoV_apply (x0 : FVec Ideal S1x256x5120 .bf16) (x1 : FVec Ideal S1x5120 .bf16) (r : Fin 256) (l : Fin 1) :
    expoV x0 x1 (ix2 r l) = kernelExponent (over448 (amax (row x0 x1 r))) := by
  rw [expoV_eq, expo_read, pay3_row]

/-! ## Scale and codes -/

/-- The word of a power of two. -/
theorem pay10_read (v : IVec S256x1 32) (r : Fin 256) (l : Fin 1) :
    k0_pay10 (F := Ideal) v (ix2 r l) = Ideal.ofBits .f32 (IntOp.shli .vector (v (ix2 r l)) 23#32) := by
  pointwise [k0_pay10]

/-- The scale of each row of a block. -/
def scaleV (x0 : FVec Ideal S1x256x5120 .bf16) (x1 : FVec Ideal S1x5120 .bf16) : FVec Ideal S256x1 .f32 :=
  k0_pay10 (addi (expoV x0 x1) (broadcast S256x1 127#32))

theorem scaleV_apply (x0 : FVec Ideal S1x256x5120 .bf16) (x1 : FVec Ideal S1x5120 .bf16) (r : Fin 256) (l : Fin 1) :
    scaleV x0 x1 (ix2 r l) = kernelS (amax (row x0 x1 r)) := by
  have h : ∀ e : IVec S256x1 32, addi e (broadcast S256x1 127#32) (ix2 r l) = IntOp.addi (e (ix2 r l)) 127#32 := fun e => rfl
  rw [scaleV, pay10_read, h, expoV_apply, kernelS, kernelScale]

/-- The scale as the row that the kernel stores. -/
theorem pay12_read (v : IVec S256x1 32) (i j : Fin 1) (r : Fin 256) :
    k0_pay12 (F := Ideal) v (ix3 i j r) = Ideal.ofBits .f32 (IntOp.shli .vector (v (ix2 r 0)) 23#32) := by
  pointwise [k0_pay12, k0_pay10]

theorem scaleRow_apply (x0 : FVec Ideal S1x256x5120 .bf16) (x1 : FVec Ideal S1x5120 .bf16) (i j : Fin 1) (r : Fin 256) :
    k0_pay12 (F := Ideal) (addi (expoV x0 x1) (broadcast S256x1 127#32)) (ix3 i j r) = kernelS (amax (row x0 x1 r)) := by
  have h : ∀ e : IVec S256x1 32, addi e (broadcast S256x1 127#32) (ix2 r 0) = IntOp.addi (e (ix2 r 0)) 127#32 := fun e => rfl
  rw [pay12_read, h, expoV_apply, kernelS, kernelScale]

/-- The codes of rows `h` at exponents `e`. -/
theorem pay11_read (h : FVec Ideal S256x5120 .f32) (e : IVec S256x1 32) (i : Fin 1) (r : Fin 256) (k : Fin 5120) :
    k0_pay11 h e (ix3 i r k) = min (Ideal.ofBits .f32 0x43E00000#32) (max (Ideal.ofBits .f32 0xC3E00000#32)
      (h (ix2 r k) * Ideal.ofBits .f32 (IntOp.shli .vector (IntOp.subi 127#32 (e (ix2 r 0))) 23#32))) := by
  pointwise [k0_pay11]

/-- The codes of a block. -/
def codesV (x0 : FVec Ideal S1x256x5120 .bf16) (x1 : FVec Ideal S1x5120 .bf16) : FVec Ideal S1x256x5120 .fp8e4m3 :=
  k0_pay11 (k0_pay3 (F := Ideal) x0 x1) (expoV x0 x1)

theorem codesV_apply (x0 : FVec Ideal S1x256x5120 .bf16) (x1 : FVec Ideal S1x5120 .bf16) (i : Fin 1) (r : Fin 256) (k : Fin 5120) :
    codesV x0 x1 (ix3 i r k) = codeOf kernelI (row x0 x1 r) k := by
  rw [codesV, pay11_read, expoV_apply, pay3_apply, codeOf, kernelI, kernelInverse]

/-! ## The projection and the heads -/

/-- A pair of heads of the projection, from the codes and the pair's columns of the weights. -/
theorem pay19_read (s : FVec Ideal S256x1 .f32) (q : FVec Ideal S1x256x5120 .fp8e4m3) (w : FVec Ideal S5120x256 .fp8e4m3)
    (ws : FVec Ideal S1x256 .f32) (r : Fin 256) (c : Fin 256) :
    k0_pay19 s q w ws (ix2 r c) = (∑ k : Fin 5120, q (ix3 0 r k) * w (ix2 k c)) * s (ix2 r 0) * ws (ix2 0 c) := by
  pointwise [k0_pay19]

/-- The left (`i = 0`) or right (`i = 1`) head of a pair. -/
def halfV (i : Fin 2) (p : FVec Ideal S256x256 .f32) : FVec Ideal S256x128 .f32 :=
  extractStridedSlice S256x128 ![0, 128 * i.val] p (by decide +revert)

theorem halfV_apply (i : Fin 2) (p : FVec Ideal S256x256 .f32) (r : Fin 256) (l : Fin 128) :
    halfV i p (ix2 r l) = p (ix2 r ⟨128 * i.val + l.val, by omega⟩) :=
  extractStridedSlice_apply _ _ _ _ _ fun a => by fin_cases a <;> simp [ix2]

/-- A head, normalised with a gain. -/
def normV (p : FVec Ideal S256x128 .f32) (g : FVec Ideal S1x128 .f32) : FVec Ideal S1x1x256x128 .bf16 :=
  k0_pay1 g p (mulf p p)

theorem normV_apply (p : FVec Ideal S256x128 .f32) (g : FVec Ideal S1x128 .f32) (i j : Fin 1) (r : Fin 256) (l : Fin 128) :
    normV p g (ix4 i j r l) = rms 0x43000000#32 (fun l' => p (ix2 r l')) (fun l' => g (ix2 0 l')) l := by
  pointwise [normV, k0_pay1]
  simp only [rms]

/-- A head as it is. -/
def rawV (p : FVec Ideal S256x128 .f32) : FVec Ideal S1x1x256x128 .bf16 :=
  shapeCast S1x1x256x128 (truncf .bf16 p bitsLt_bf16_f32) shapeCasts_S256x128_S1x1x256x128

theorem rawV_apply (p : FVec Ideal S256x128 .f32) (i j : Fin 1) (r : Fin 256) (l : Fin 128) :
    rawV p (ix4 i j r l) = p (ix2 r l) := by
  pointwise [rawV]

/-- The query gain. -/
theorem pay13_read (g : FVec Ideal S1x128 .bf16) (i : Fin 1) (l : Fin 128) : k0_pay13 (F := Ideal) g (ix2 i l) = g (ix2 i l) := by
  pointwise [k0_pay13]

/-- The key gain. -/
theorem pay14_read (g : FVec Ideal S1x128 .bf16) (i : Fin 1) (l : Fin 128) : k0_pay14 (F := Ideal) g (ix2 i l) = g (ix2 i l) := by
  pointwise [k0_pay14]

end Cert.Qkv.Kernel

end
-- ==== Proof.KernelPieces.lean ====
/-
  What the kernel's body leaves in each output block, as a list of pieces: one head each of the queries, keys and values,
  the whole block of the codes and of the scales.
-/
module

public import proofs.«01_k».proof.Proof.KernelVec
public import proofs.«01_k».proof.Proof.Gen.KernelIdeal.Frame
public import Idealize.ShloMosaic.Lib.Pipeline.ValueKit.Tiles

@[expose] public section

set_option maxRecDepth 16384

noncomputable section

namespace Cert.Qkv.Kernel

open Cert.KernelIdeal Cert.KernelIdeal.Gen Idealize.ShloMosaic Idealize.ShloMosaic.TcCoe Idealize.SL.Sem Idealize.ShloMosaic.Tactic

/-- A rectangle at the origin. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A block of heads written head by head -/

/-- Where a block of `H` heads holds the head `h`. -/
def headRect (H : Nat) (h : Fin H) : Rect ⟨4, ![1, H, 256, 128]⟩ :=
  Rect.unit (s := ⟨4, ![1, H, 256, 128]⟩) ![0, h.val, 0, 0] ![1, 1, 256, 128] (by intro a; fin_cases a <;> simp <;> omega)

/-- The block's index of an index of the head. -/
theorem headRect_emb {H : Nat} (h : Fin H) (i j : Fin 1) (r : Fin 256) (l : Fin 128) :
    (headRect H h).emb (ix4 i j r l) = ix4 0 h r l := by
  funext a
  apply Fin.ext
  show ((headRect H h).idx (ix4 i j r l) a).val = _
  unfold headRect
  rw [Rect.idx_unit_val]
  fin_cases a <;> simp [ix4] <;> omega

/-- Heads written one by one: the block holds each at its place. -/
theorem canon_heads {H : Nat} (L : List (Fin H)) (hL : ∀ h, h ∈ L) (f : Fin H → FVec Ideal S1x1x256x128 .bf16)
    (i : Fin 1) (h : Fin H) (r : Fin 256) (l : Fin 128) :
    View.canon (L.map fun h => (⟨headRect H h, f h⟩ : View.Piece (Elt Ideal) ⟨4, ![1, H, 256, 128]⟩ .bf16)) (ix4 i h r l)
      = f h (ix4 0 0 r l) := by
  obtain rfl : i = 0 := Subsingleton.elim _ _
  refine View.canon_apply_of_pieces (Val := Elt Ideal) (e := .bf16) (S := ⟨4, ![1, H, 256, 128]⟩) (G := fun y => f (y 1) (ix4 0 0 (y 2) (y 3))) _ ?_ (ix4 0 h r l) ?_
  · intro p hp x
    obtain ⟨h', _, rfl⟩ := List.mem_map.mp hp
    have hx := eq_ix4 x
    obtain ⟨i, j, r', l', rfl⟩ : ∃ (i j : Fin 1) (r' : Fin 256) (l' : Fin 128), x = ix4 i j r' l' := ⟨_, _, _, _, hx⟩
    obtain rfl : i = 0 := Subsingleton.elim _ _
    obtain rfl : j = 0 := Subsingleton.elim _ _
    dsimp only
    rw [headRect_emb]
    rfl
  · refine ⟨_, List.mem_map.mpr ⟨h, hL h, rfl⟩, ?_⟩
    rw [← headRect_emb h 0 0 r l]
    exact (headRect H h).idx_mem _

section Pieces

variable (x0 : FVec Ideal S1x256x5120 .bf16) (x1 : FVec Ideal S1x5120 .bf16) (x2 : FVec Ideal S5120x3840 .fp8e4m3)
  (x3 : FVec Ideal S1x3840 .f32) (x4 x5 : FVec Ideal S1x128 .bf16)

/-! ## The heads of a block -/

/-- The columns of pair `t` of the weights. -/
def weightRect (t : Fin 15) : Rect S5120x3840 :=
  Rect.unit (s := S5120x3840) ![0, 256 * t.val] ![5120, 256] (by intro a; fin_cases a <;> simp <;> omega)

/-- The columns of pair `t` of the weight scales. -/
def weightScaleRect (t : Fin 15) : Rect S1x3840 :=
  Rect.unit (s := S1x3840) ![0, 256 * t.val] ![1, 256] (by intro a; fin_cases a <;> simp <;> omega)

/-- The pair's weights. -/
def weightV (t : Fin 15) : FVec Ideal S5120x256 .fp8e4m3 := View.ld (Val := Elt Ideal) (e' := .fp8e4m3) x2 (weightRect t)

theorem weightV_apply (t : Fin 15) (k : Fin 5120) (c : Fin 256) :
    weightV x2 t (ix2 k c) = x2 (ix2 k ⟨256 * t.val + c.val, by omega⟩) :=
  View.ld_unit_apply_of (Val := Elt Ideal) (e := .fp8e4m3) x2 _ _ _ _ _ fun a => by fin_cases a <;> simp [ix2]

/-- The pair's weight scales. -/
def weightScaleV (t : Fin 15) : FVec Ideal S1x256 .f32 := View.ld (Val := Elt Ideal) (e' := .f32) x3 (weightScaleRect t)

theorem weightScaleV_apply (t : Fin 15) (c : Fin 256) :
    weightScaleV x3 t (ix2 0 c) = x3 (ix2 0 ⟨256 * t.val + c.val, by omega⟩) :=
  View.ld_unit_apply_of (Val := Elt Ideal) (e := .f32) x3 _ _ _ _ _ fun a => by fin_cases a <;> simp [ix2]

/-- The pair `t` of heads of the projection. -/
def pairV (t : Fin 15) : FVec Ideal S256x256 .f32 :=
  k0_pay19 (scaleV x0 x1) (codesV x0 x1) (weightV x2 t) (weightScaleV x3 t)

/-- The head `p` of the projection. -/
def headV (p : Fin 30) : FVec Ideal S256x128 .f32 := halfV ⟨p.val % 2, by omega⟩ (pairV x0 x1 x2 x3 ⟨p.val / 2, by omega⟩)

/-- A head of the projection is the projection's columns. -/
theorem headV_apply (p : Fin 30) (r : Fin 256) (l : Fin 128) : headV x0 x1 x2 x3 p (ix2 r l)
    = projOf kernelS kernelI (row x0 x1 r) (fun k c => x2 (ix2 k c)) (fun c => x3 (ix2 0 c)) (column p l) := by
  have hc : (⟨256 * (p.val / 2) + (128 * (p.val % 2) + l.val), by omega⟩ : Fin 3840) = column p l :=
    Fin.ext (show 256 * (p.val / 2) + (128 * (p.val % 2) + l.val) = p.val * 128 + l.val by omega)
  rw [headV, halfV_apply, pairV, pay19_read, scaleV_apply]
  simp only [codesV_apply, weightV_apply, weightScaleV_apply, hc]
  rw [projOf]

/-! ## The pieces -/

/-- The query head `h`, where the body stores it. -/
def queryPiece (h : Fin 20) : View.Piece (Elt Ideal) ⟨4, ![1, 20, 256, 128]⟩ .bf16 :=
  ⟨headRect 20 h, normV (headV x0 x1 x2 x3 (queryHead h)) (k0_pay13 x4)⟩

/-- The key head of group `g`, where the body stores it. -/
def keyPiece (g : Fin 5) : View.Piece (Elt Ideal) ⟨4, ![1, 5, 256, 128]⟩ .bf16 :=
  ⟨headRect 5 g, normV (headV x0 x1 x2 x3 (keyHead g)) (k0_pay14 x5)⟩

/-- The value head of group `g`, where the body stores it. -/
def valuePiece (g : Fin 5) : View.Piece (Elt Ideal) ⟨4, ![1, 5, 256, 128]⟩ .bf16 :=
  ⟨headRect 5 g, rawV (headV x0 x1 x2 x3 (valueHead g))⟩

end Pieces

variable (m : (ℓ : Loc nD τ sig) → Buf (Elt Ideal) ℓ)

/-- What the body leaves in the block of the queries. -/
theorem query_pieces (c : Dev nD) (t : Fin cfg0.N) : (outsAt0 m c t).1
    = View.canon ([19, 18, 17, 16, 15, 14, 13, 12, 11, 10, 9, 8, 7, 6, 5, 4, 3, 2, 1, 0].map
        (queryPiece (iblk m c 0 t) (iblk m c 1 t) (iblk m c 2 t) (iblk m c 3 t) (iblk m c 4 t))) := by
  unfold outsAt0 out0_A_6
  dsimp only
  rw [View.read_writes_eq_canon _ _ _ (cover0_A_6 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread]
  rw [View.readCov_unit_zero (S := S1x256x5120) (ms0_9 t).view hz3]
  rw [View.ld_unit_zero (S := S1x256x5120) hz3 _ (iblk m c 0 t), View.ld_unit_zero (S := S1x5120) hz2 _ (iblk m c 1 t),
    View.ld_unit_zero (S := S1x128) hz2 _ (iblk m c 4 t)]
  generalize (iblk m c 0 t) = y0
  generalize (iblk m c 1 t) = y1
  generalize (iblk m c 2 t) = y2
  generalize (iblk m c 3 t) = y3
  generalize (iblk m c 4 t) = y4
  rfl

/-- What the body leaves in the block of the keys. -/
theorem key_pieces (c : Dev nD) (t : Fin cfg0.N) : (outsAt0 m c t).2.1
    = View.canon ([4, 3, 2, 1, 0].map (keyPiece (iblk m c 0 t) (iblk m c 1 t) (iblk m c 2 t) (iblk m c 3 t) (iblk m c 5 t))) := by
  unfold outsAt0 out0_A_7
  dsimp only
  rw [View.read_writes_eq_canon _ _ _ (cover0_A_7 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_5 t).read_unread]
  rw [View.readCov_unit_zero (S := S1x256x5120) (ms0_9 t).view hz3]
  rw [View.ld_unit_zero (S := S1x256x5120) hz3 _ (iblk m c 0 t), View.ld_unit_zero (S := S1x5120) hz2 _ (iblk m c 1 t),
    View.ld_unit_zero (S := S1x128) hz2 _ (iblk m c 5 t)]
  generalize (iblk m c 0 t) = y0
  generalize (iblk m c 1 t) = y1
  generalize (iblk m c 2 t) = y2
  generalize (iblk m c 3 t) = y3
  generalize (iblk m c 5 t) = y5
  rfl

/-- What the body leaves in the block of the values. -/
theorem value_pieces (c : Dev nD) (t : Fin cfg0.N) : (outsAt0 m c t).2.2.1
    = View.canon ([4, 3, 2, 1, 0].map (valuePiece (iblk m c 0 t) (iblk m c 1 t) (iblk m c 2 t) (iblk m c 3 t))) := by
  unfold outsAt0 out0_A_8
  dsimp only
  rw [View.read_writes_eq_canon _ _ _ (cover0_A_8 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.readCov_unit_zero (S := S1x256x5120) (ms0_9 t).view hz3]
  rw [View.ld_unit_zero (S := S1x256x5120) hz3 _ (iblk m c 0 t), View.ld_unit_zero (S := S1x5120) hz2 _ (iblk m c 1 t)]
  generalize (iblk m c 0 t) = y0
  generalize (iblk m c 1 t) = y1
  generalize (iblk m c 2 t) = y2
  generalize (iblk m c 3 t) = y3
  rfl

/-- What the body leaves in the block of the codes. -/
theorem codes_pieces (c : Dev nD) (t : Fin cfg0.N) : (outsAt0 m c t).2.2.2.1 = codesV (iblk m c 0 t) (iblk m c 1 t) := by
  unfold outsAt0 out0_A_9
  dsimp only
  rw [View.read_writes_eq_canon _ _ _ (cover0_A_9 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread]
  rw [View.canon_unit_zero (S := S1x256x5120) hz3]
  rw [View.ld_unit_zero (S := S1x256x5120) hz3 _ (iblk m c 0 t), View.ld_unit_zero (S := S1x5120) hz2 _ (iblk m c 1 t)]
  generalize (iblk m c 0 t) = y0
  generalize (iblk m c 1 t) = y1
  rfl

/-- What the body leaves in the block of the scales. -/
theorem scale_pieces (c : Dev nD) (t : Fin cfg0.N) : (outsAt0 m c t).2.2.2.2
    = k0_pay12 (F := Ideal) (addi (expoV (iblk m c 0 t) (iblk m c 1 t)) (broadcast S256x1 127#32)) := by
  unfold outsAt0 out0_A_10
  dsimp only
  rw [View.read_writes_eq_canon _ _ _ (cover0_A_10 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread]
  rw [View.canon_unit_zero (S := S1x1x256) hz3]
  rw [View.ld_unit_zero (S := S1x256x5120) hz3 _ (iblk m c 0 t), View.ld_unit_zero (S := S1x5120) hz2 _ (iblk m c 1 t)]
  generalize (iblk m c 0 t) = y0
  generalize (iblk m c 1 t) = y1
  rfl

end Cert.Qkv.Kernel

end
-- ==== Proof.KernelBlocks.lean ====
/-
  The kernel's result arrays: every grid point's blocks read from the arguments, and the arrays assembled from the blocks the
  points write back.
-/
module

public import proofs.«01_k».proof.Proof.KernelPieces
public import Idealize.ShloMosaic.Lib.Pipeline.ValueKit.Geometry
public import Idealize.ShloMosaic.Lib.Claim
public import Idealize.ShloMosaic.Lib.StableHlo.ReadAt

@[expose] public section

set_option maxRecDepth 16384

noncomputable section

namespace Cert.Qkv.Kernel

open Cert.KernelIdeal Cert.KernelIdeal.Gen Idealize.ShloMosaic Idealize.ShloMosaic.TcCoe Idealize.SL.Sem Idealize.ShloMosaic.Tactic

/-! ## Where each window's block lies -/

theorem index_0 : ∀ t : Fin cfg0.N, win0_0.index t = ![t.val / 4, t.val % 4, 0] :=
  (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val / 4, 0, t.val % 4, 0] :=
  (by decide +kernel : ∀ t : Fin grid0.N, _)
theorem index_7 : ∀ t : Fin cfg0.N, win0_7.index t = ![t.val / 4, 0, t.val % 4, 0] :=
  (by decide +kernel : ∀ t : Fin grid0.N, _)
theorem index_8 : ∀ t : Fin cfg0.N, win0_8.index t = ![t.val / 4, 0, t.val % 4, 0] :=
  (by decide +kernel : ∀ t : Fin grid0.N, _)
theorem index_9 : ∀ t : Fin cfg0.N, win0_9.index t = ![t.val / 4, t.val % 4, 0] :=
  (by decide +kernel : ∀ t : Fin grid0.N, _)
theorem index_10 : ∀ t : Fin cfg0.N, win0_10.index t = ![t.val / 4, 0, t.val % 4] :=
  (by decide +kernel : ∀ t : Fin grid0.N, _)

theorem batch_lt : ∀ t : Fin cfg0.N, t.val / 4 < 3 := (by decide +kernel : ∀ t : Fin grid0.N, _)
theorem rows_lt : ∀ t : Fin cfg0.N, t.val % 4 < 4 := (by decide +kernel : ∀ t : Fin grid0.N, _)

/-- The batch of a grid point. -/
def batch (t : Fin cfg0.N) : Fin 3 := ⟨t.val / 4, batch_lt t⟩

/-- The row of the arrays a row of a grid point's block is. -/
def rowAt (t : Fin cfg0.N) (r : Fin 256) : Fin 1024 := ⟨t.val % 4 * 256 + r.val, by have := rows_lt t; omega⟩

variable (m : (ℓ : Loc nD τ sig) → Buf (Elt Ideal) ℓ)

/-! ## What each input block holds -/

/-- A block of the input: one batch's rows. -/
theorem block_0 (c : Dev nD) (t : Fin cfg0.N) (i : Fin 1) (r : Fin 256) (k : Fin 5120) :
    iblk m c 0 t (ix3 i r k) = m ((c : Thread nD τ).loc main_arg0) (ix3 (batch t) (rowAt t r) k) := by
  blk_simp [iblk]
  entry_read
  refine congrArg (m _) ?_
  blk_ext [index_0, batch, rowAt]

/-- The weights of the norm, as a row. -/
theorem block_1 (c : Dev nD) (t : Fin cfg0.N) (i : Fin 1) (k : Fin 5120) :
    iblk m c 1 t (ix2 i k) = m ((c : Thread nD τ).loc main_arg1) (ix1 k) := by
  have h : ((cfg0.win 1).blk t).view.emb (ix2 i k) = (ix2 0 k : S1x5120.Idx) := by blk_ext [index_1]
  blk_simp [iblk]
  entry_read
  refine (congrArg _ h).trans ?_
  simp only [List.flatten_cons, List.flatten_nil, List.append_nil]
  after_reads_at

/-- The weights of the projection, whole at every grid point. -/
theorem block_2 (c : Dev nD) (t : Fin cfg0.N) (k : Fin 5120) (l : Fin 3840) :
    iblk m c 2 t (ix2 k l) = m ((c : Thread nD τ).loc main_arg2) (ix2 k l) := by
  blk_simp [iblk]
  entry_read
  refine congrArg (m _) ?_
  blk_ext [index_2]

/-- The scales of the weights, as a row. -/
theorem block_3 (c : Dev nD) (t : Fin cfg0.N) (i : Fin 1) (l : Fin 3840) :
    iblk m c 3 t (ix2 i l) = m ((c : Thread nD τ).loc main_arg3) (ix1 l) := by
  have h : ((cfg0.win 3).blk t).view.emb (ix2 i l) = (ix2 0 l : S1x3840.Idx) := by blk_ext [index_3]
  blk_simp [iblk]
  entry_read
  refine (congrArg _ h).trans ?_
  simp only [List.flatten_cons, List.flatten_nil, List.append_nil]
  after_reads_at

/-- The gain of the queries, as a row. -/
theorem block_4 (c : Dev nD) (t : Fin cfg0.N) (i : Fin 1) (l : Fin 128) :
    iblk m c 4 t (ix2 i l) = m ((c : Thread nD τ).loc main_arg4) (ix1 l) := by
  have h : ((cfg0.win 4).blk t).view.emb (ix2 i l) = (ix2 0 l : S1x128.Idx) := by blk_ext [index_4]
  blk_simp [iblk]
  entry_read
  refine (congrArg _ h).trans ?_
  simp only [List.flatten_cons, List.flatten_nil, List.append_nil]
  after_reads_at

/-- The gain of the keys, as a row. -/
theorem block_5 (c : Dev nD) (t : Fin cfg0.N) (i : Fin 1) (l : Fin 128) :
    iblk m c 5 t (ix2 i l) = m ((c : Thread nD τ).loc main_arg5) (ix1 l) := by
  have h : ((cfg0.win 5).blk t).view.emb (ix2 i l) = (ix2 0 l : S1x128.Idx) := by blk_ext [index_5]
  blk_simp [iblk]
  entry_read
  refine (congrArg _ h).trans ?_
  simp only [List.flatten_cons, List.flatten_nil, List.append_nil]
  after_reads_at

/-! ## The result arrays -/

/-- A normed row of the input. -/
def argRow (c : Dev nD) (b : Fin 3) (r : Fin 1024) : Fin 5120 → EReal :=
  normed (fun k => m ((c : Thread nD τ).loc main_arg0) (ix3 b r k)) (fun k => m ((c : Thread nD τ).loc main_arg1) (ix1 k))

/-- The weights of the projection. -/
def argWeights (c : Dev nD) : Fin 5120 → Fin 3840 → EReal := fun k l => m ((c : Thread nD τ).loc main_arg2) (ix2 k l)

/-- The scales of the weights. -/
def argScales (c : Dev nD) : Fin 3840 → EReal := fun l => m ((c : Thread nD τ).loc main_arg3) (ix1 l)

/-- A row of a block is a row of the input, normed. -/
theorem row_block (c : Dev nD) (t : Fin cfg0.N) (r : Fin 256) :
    row (iblk m c 0 t) (iblk m c 1 t) r = argRow m c (batch t) (rowAt t r) := by
  unfold row argRow
  simp only [block_0, block_1]

/-- A head of a block is a head of the projection of the input. -/
theorem head_block (c : Dev nD) (t : Fin cfg0.N) (p : Fin 30) (r : Fin 256) (l : Fin 128) :
    headV (iblk m c 0 t) (iblk m c 1 t) (iblk m c 2 t) (iblk m c 3 t) p (ix2 r l)
      = projOf kernelS kernelI (argRow m c (batch t) (rowAt t r)) (argWeights m c) (argScales m c) (column p l) := by
  rw [headV_apply, row_block]
  simp only [block_2, block_3]
  rfl

/-- Each piece of the queries is listed. -/
theorem mem_twenty : ∀ h : Fin 20, h ∈ [(19 : Fin 20), 18, 17, 16, 15, 14, 13, 12, 11, 10, 9, 8, 7, 6, 5, 4, 3, 2, 1, 0] := by
  decide

/-- Each piece of the keys and of the values is listed. -/
theorem mem_five : ∀ g : Fin 5, g ∈ [(4 : Fin 5), 3, 2, 1, 0] := by decide

/-- The block of the queries, at an index. -/
theorem query_block (c : Dev nD) (t : Fin cfg0.N) (i : Fin 1) (h : Fin 20) (r : Fin 256) (l : Fin 128) :
    (outsAt0 m c t).1 (ix4 i h r l)
      = headOf kernelS kernelI (argRow m c (batch t) (rowAt t r)) (argWeights m c) (argScales m c)
          (fun l' => m ((c : Thread nD τ).loc main_arg4) (ix1 l')) (queryHead h) l := by
  rw [query_pieces]
  refine (canon_heads _ mem_twenty _ i h r l).trans ?_
  rw [normV_apply, headOf]
  simp only [head_block, pay13_read, block_4]

/-- The block of the keys, at an index. -/
theorem key_block (c : Dev nD) (t : Fin cfg0.N) (i : Fin 1) (g : Fin 5) (r : Fin 256) (l : Fin 128) :
    (outsAt0 m c t).2.1 (ix4 i g r l)
      = headOf kernelS kernelI (argRow m c (batch t) (rowAt t r)) (argWeights m c) (argScales m c)
          (fun l' => m ((c : Thread nD τ).loc main_arg5) (ix1 l')) (keyHead g) l := by
  rw [key_pieces]
  refine (canon_heads _ mem_five _ i g r l).trans ?_
  rw [normV_apply, headOf]
  simp only [head_block, pay14_read, block_5]

/-- The block of the values, at an index. -/
theorem value_block (c : Dev nD) (t : Fin cfg0.N) (i : Fin 1) (g : Fin 5) (r : Fin 256) (l : Fin 128) :
    (outsAt0 m c t).2.2.1 (ix4 i g r l)
      = projOf kernelS kernelI (argRow m c (batch t) (rowAt t r)) (argWeights m c) (argScales m c) (column (valueHead g) l) := by
  rw [value_pieces]
  refine (canon_heads _ mem_five _ i g r l).trans ?_
  rw [rawV_apply, head_block]

/-- The block of the codes, at an index. -/
theorem codes_block (c : Dev nD) (t : Fin cfg0.N) (i : Fin 1) (r : Fin 256) (k : Fin 5120) :
    (outsAt0 m c t).2.2.2.1 (ix3 i r k) = codeOf kernelI (argRow m c (batch t) (rowAt t r)) k := by
  rw [codes_pieces, codesV_apply, row_block]

/-- The block of the scales, at an index. -/
theorem scale_block (c : Dev nD) (t : Fin cfg0.N) (i j : Fin 1) (r : Fin 256) :
    (outsAt0 m c t).2.2.2.2 (ix3 i j r) = kernelS (amax (argRow m c (batch t) (rowAt t r))) := by
  rw [scale_pieces, scaleRow_apply, row_block]

/-- The queries after the run. -/
theorem query_array (c : Dev nD) : (dats m 0 c).arrAt 6 cfg0.N
    = fun y : S3x20x1024x128.Idx => headOf kernelS kernelI (argRow m c (y 0) (y 2)) (argWeights m c) (argScales m c)
        (fun l => m ((c : Thread nD τ).loc main_arg4) (ix1 l)) (queryHead (y 1)) (y 3) := by
  refine (dats m 0 c).arrAt_eq_of_covers 6 _ (by decide +kernel) fun t _ y => ?_
  have e : ((cfg0.win 6).blk t).view.emb y = (ix4 (batch t) (y 1) (rowAt t (y 2)) (y 3) : S3x20x1024x128.Idx) := by
    blk_ext [index_6, batch, rowAt]
  rw [e]
  blk_simp
  rw [after0_6, eq_ix4 y]
  exact query_block m c t _ _ _ _

/-- The keys after the run. -/
theorem key_array (c : Dev nD) : (dats m 0 c).arrAt 7 cfg0.N
    = fun y : S3x5x1024x128.Idx => headOf kernelS kernelI (argRow m c (y 0) (y 2)) (argWeights m c) (argScales m c)
        (fun l => m ((c : Thread nD τ).loc main_arg5) (ix1 l)) (keyHead (y 1)) (y 3) := by
  refine (dats m 0 c).arrAt_eq_of_covers 7 _ (by decide +kernel) fun t _ y => ?_
  have e : ((cfg0.win 7).blk t).view.emb y = (ix4 (batch t) (y 1) (rowAt t (y 2)) (y 3) : S3x5x1024x128.Idx) := by
    blk_ext [index_7, batch, rowAt]
  rw [e]
  blk_simp
  rw [after0_7, eq_ix4 y]
  exact key_block m c t _ _ _ _

/-- The values after the run. -/
theorem value_array (c : Dev nD) : (dats m 0 c).arrAt 8 cfg0.N
    = fun y : S3x5x1024x128.Idx => projOf kernelS kernelI (argRow m c (y 0) (y 2)) (argWeights m c) (argScales m c)
        (column (valueHead (y 1)) (y 3)) := by
  refine (dats m 0 c).arrAt_eq_of_covers 8 _ (by decide +kernel) fun t _ y => ?_
  have e : ((cfg0.win 8).blk t).view.emb y = (ix4 (batch t) (y 1) (rowAt t (y 2)) (y 3) : S3x5x1024x128.Idx) := by
    blk_ext [index_8, batch, rowAt]
  rw [e]
  blk_simp
  rw [after0_8, eq_ix4 y]
  exact value_block m c t _ _ _ _

/-- The codes after the run. -/
theorem codes_array (c : Dev nD) : (dats m 0 c).arrAt 9 cfg0.N
    = fun y : S3x1024x5120.Idx => codeOf kernelI (argRow m c (y 0) (y 1)) (y 2) := by
  refine (dats m 0 c).arrAt_eq_of_covers 9 _ (by decide +kernel) fun t _ y => ?_
  have e : ((cfg0.win 9).blk t).view.emb y = (ix3 (batch t) (rowAt t (y 1)) (y 2) : S3x1024x5120.Idx) := by
    blk_ext [index_9, batch, rowAt]
  rw [e]
  blk_simp
  rw [after0_9, eq_ix3 y]
  exact codes_block m c t _ _ _

/-- The scales after the run. -/
theorem scale_array (c : Dev nD) : (dats m 0 c).arrAt 10 cfg0.N
    = fun y : S3x1x1024.Idx => kernelS (amax (argRow m c (y 0) (y 2))) := by
  refine (dats m 0 c).arrAt_eq_of_covers 10 _ (by decide +kernel) fun t _ y => ?_
  have e : ((cfg0.win 10).blk t).view.emb y = (ix3 (batch t) (y 1) (rowAt t (y 2)) : S3x1x1024.Idx) := by
    blk_ext [index_10, batch, rowAt]
  rw [e]
  blk_simp
  rw [after0_10, eq_ix3 y]
  exact scale_block m c t _ _ _

end Cert.Qkv.Kernel

end
-- ==== Proof.KernelRun.lean ====
/-
  The kernel's run: the arrays of the pipeline after the last grid point, and behind them the four transposes that put the
  tokens in front of the heads.
-/
module

public import proofs.«01_k».proof.Proof.KernelBlocks
public import Idealize.ShloMosaic.Lib.Pointwise

@[expose] public section

set_option maxRecDepth 16384

noncomputable section

namespace Cert.Qkv.Kernel

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

/-- What the host lines after the pipeline start from: the pipeline's arrays as it leaves them. -/
abbrev left (c : Dev nD) : Valuation τ sig (Elt Ideal) :=
  Pipeline.withArrays spec0 c (V0 m c) fun w => (dats m 0 c).arrAt w cfg0.N

theorem left_query (c : Dev nD) : left m c (Proc.devRef .tc main_v4_0) = (dats m 0 c).arrAt 6 cfg0.N :=
  Pipeline.withArrays_arr spec0 launch0.win.arr_inj c (V0 m c) _ 6
theorem left_key (c : Dev nD) : left m c (Proc.devRef .tc main_v4_1) = (dats m 0 c).arrAt 7 cfg0.N :=
  Pipeline.withArrays_arr spec0 launch0.win.arr_inj c (V0 m c) _ 7
theorem left_value (c : Dev nD) : left m c (Proc.devRef .tc main_v4_2) = (dats m 0 c).arrAt 8 cfg0.N :=
  Pipeline.withArrays_arr spec0 launch0.win.arr_inj c (V0 m c) _ 8
theorem left_scale (c : Dev nD) : left m c (Proc.devRef .tc main_v4_4) = (dats m 0 c).arrAt 10 cfg0.N :=
  Pipeline.withArrays_arr spec0 launch0.win.arr_inj c (V0 m c) _ 10

/-- The queries with the tokens in front of the heads. -/
def queryResult (c : Dev nD) : Vec Ideal S3x1024x20x128 .bf16 := fun y =>
  headOf kernelS kernelI (argRow m c (y 0) (y 1)) (argWeights m c) (argScales m c)
    (fun l => m ((c : Thread nD τ).loc main_arg4) (ix1 l)) (queryHead (y 2)) (y 3)

/-- The keys with the tokens in front of the heads. -/
def keyResult (c : Dev nD) : Vec Ideal S3x1024x5x128 .bf16 := fun y =>
  headOf kernelS kernelI (argRow m c (y 0) (y 1)) (argWeights m c) (argScales m c)
    (fun l => m ((c : Thread nD τ).loc main_arg5) (ix1 l)) (keyHead (y 2)) (y 3)

/-- The values with the tokens in front of the heads. -/
def valueResult (c : Dev nD) : Vec Ideal S3x1024x5x128 .bf16 := fun y =>
  projOf kernelS kernelI (argRow m c (y 0) (y 1)) (argWeights m c) (argScales m c) (column (valueHead (y 2)) (y 3))

/-- The codes. -/
def codesResult (c : Dev nD) : Vec Ideal S3x1024x5120 .fp8e4m3 := fun y =>
  codeOf kernelI (argRow m c (y 0) (y 1)) (y 2)

/-- The scales, one behind each token. -/
def scaleResult (c : Dev nD) : Vec Ideal S3x1024x1 .f32 := fun y => kernelS (amax (argRow m c (y 0) (y 1)))

theorem query_after (c : Dev nD) :
    Pipeline.afterTail₀ cfgs (dats m) 0 (V0 m) [hostOps1] c main_v5 = queryResult m c := by
  have h : Pipeline.afterTail₀ cfgs (dats m) 0 (V0 m) [hostOps1] c main_v5
      = transpose S3x1024x20x128 [0, 2, 1, 3] (left m c (Proc.devRef .tc main_v4_0)) transposes_S3x20x1024x128_S3x1024x20x128_0_2_1_3 := by
    unfold Pipeline.afterTail₀
    simp only [hostOps1, List.flatten_cons, List.flatten_nil, List.append_nil]
    after_results
  rw [h, left_query, query_array]
  funext y
  rw [eq_ix4 y]
  pointwise [queryResult]

theorem key_after (c : Dev nD) :
    Pipeline.afterTail₀ cfgs (dats m) 0 (V0 m) [hostOps1] c main_v6 = keyResult m c := by
  have h : Pipeline.afterTail₀ cfgs (dats m) 0 (V0 m) [hostOps1] c main_v6
      = transpose S3x1024x5x128 [0, 2, 1, 3] (left m c (Proc.devRef .tc main_v4_1)) transposes_S3x5x1024x128_S3x1024x5x128_0_2_1_3 := by
    unfold Pipeline.afterTail₀
    simp only [hostOps1, List.flatten_cons, List.flatten_nil, List.append_nil]
    after_results
  rw [h, left_key, key_array]
  funext y
  rw [eq_ix4 y]
  pointwise [keyResult]

theorem value_after (c : Dev nD) :
    Pipeline.afterTail₀ cfgs (dats m) 0 (V0 m) [hostOps1] c main_v7 = valueResult m c := by
  have h : Pipeline.afterTail₀ cfgs (dats m) 0 (V0 m) [hostOps1] c main_v7
      = transpose S3x1024x5x128 [0, 2, 1, 3] (left m c (Proc.devRef .tc main_v4_2)) transposes_S3x5x1024x128_S3x1024x5x128_0_2_1_3 := by
    unfold Pipeline.afterTail₀
    simp only [hostOps1, List.flatten_cons, List.flatten_nil, List.append_nil]
    after_results
  rw [h, left_value, value_array]
  funext y
  rw [eq_ix4 y]
  pointwise [valueResult]

theorem scale_after (c : Dev nD) :
    Pipeline.afterTail₀ cfgs (dats m) 0 (V0 m) [hostOps1] c main_v8 = scaleResult m c := by
  have h : Pipeline.afterTail₀ cfgs (dats m) 0 (V0 m) [hostOps1] c main_v8
      = transpose S3x1024x1 [0, 2, 1] (left m c (Proc.devRef .tc main_v4_4)) transposes_S3x1x1024_S3x1024x1_0_2_1 := by
    unfold Pipeline.afterTail₀
    simp only [hostOps1, List.flatten_cons, List.flatten_nil, List.append_nil]
    after_results
  rw [h, left_scale, scale_array]
  funext y
  rw [eq_ix3 y]
  pointwise [scaleResult]

/-- THE RUN: every run of the kernel ends with the five results and with its arguments as they were. -/
theorem run_results (ρ : Dev nD → PrngReg) :
    θ_run defs (onTc (τ := τ) (main (F := Ideal))) ⟨m, fun _ => 0, ρ⟩ (fun r => ∀ c : Dev nD,
      r.2.mem ((c.tc : Thread nD τ).loc main_v5) = queryResult m c
      ∧ r.2.mem ((c.tc : Thread nD τ).loc main_v6) = keyResult m c
      ∧ r.2.mem ((c.tc : Thread nD τ).loc main_v7) = valueResult m c
      ∧ r.2.mem ((c.tc : Thread nD τ).loc main_v4_3) = codesResult m c
      ∧ r.2.mem ((c.tc : Thread nD τ).loc main_v8) = scaleResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ?_) (θ_run_and (run_main m ρ) (unchanged m ρ))
  obtain ⟨hw, hb⟩ := h.1 c
  exact ⟨(hb main_v5 (Pipeline.mem_restRefs_of main_v5 (by decide) (by decide))).trans (query_after m c),
    (hb main_v6 (Pipeline.mem_restRefs_of main_v6 (by decide) (by decide))).trans (key_after m c),
    (hb main_v7 (Pipeline.mem_restRefs_of main_v7 (by decide) (by decide))).trans (value_after m c),
    (hw 9).trans (codes_array m c),
    (hb main_v8 (Pipeline.mem_restRefs_of main_v8 (by decide) (by decide))).trans (scale_after m c), h.2 c⟩

end Cert.Qkv.Kernel

end
-- ==== Proof.lean ====
/-
  The proof of all the claims: the three frames, the kernel's ideal program, and the equality of the kernel's and the
  reference's five results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gains
public import proofs.«01_k».proof.Proof.Results
public import proofs.«01_k».proof.Proof.KernelRun
public import Idealize.ShloMosaic.Adequacy
public import Idealize.ShloMosaic.Init

@[expose] public section

noncomputable section

namespace Cert.Proof

open Idealize.ShloMosaic Idealize.SL.Sem

/-- The kernel and the reference, run from memories that agree on the arguments with finite weights of the norm, end with the
    same five results. -/
theorem algebraic : algebraic_KernelIdeal_ReferenceIdeal_pre_norm_w_finite (hKernelIdeal := Cert.KernelIdeal.Gen.facts)
    (hReferenceIdeal := Cert.ReferenceIdeal.Gen.facts) (hPre_norm_w_finite := Cert.Qkv.pre_facts) := by
  intro m g m' g' hpre hargs
  have hg := fun c => @Cert.Qkv.gains_finite Cert.Qkv.pre_facts _ _ _ _ _ _ (hpre c)
  refine ⟨_, _, _, _, _, Cert.Qkv.Kernel.run_results m g, ?_⟩
  refine (θ_run _ _ _).mono (fun r h c => ?_) (Cert.ReferenceIdeal.Value.run m' g')
  obtain ⟨h0, h1, h2, h3, h4, hkept⟩ := h c
  obtain ⟨e0, e1, e2, e3, e4, e5⟩ := hargs c
  rw [e0, e1, e2, e3, e4, e5] at h0 h1 h2 h3 h4
  exact ⟨h0.trans (Cert.Qkv.Reference.query_agree _ _ _ _ _ _ (hg c)),
    h1.trans (Cert.Qkv.Reference.key_agree _ _ _ _ _ _ (hg c)),
    h2.trans (Cert.Qkv.Reference.value_agree _ _ _ _ _ _ (hg c)),
    h3.trans (Cert.Qkv.Reference.codes_agree _ _ _ _ _ _ (hg c)),
    h4.trans (Cert.Qkv.Reference.scale_agree _ _ _ _ _ _ (hg c)), hkept⟩

/-- All the claims. -/
theorem claim : Cert.Claim :=
  ⟨Cert.Kernel.Gen.facts, Cert.KernelIdeal.Gen.facts, Cert.ReferenceIdeal.Gen.facts, Cert.Qkv.pre_facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
